-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_model_weights [hPre_model_weights : Cert.Pre_model_weights.Facts] (m : (ℓ : Loc Cert.KernelIdeal.nD Cert.KernelIdeal.τ Cert.KernelIdeal.sig) → Buf (Elt Ideal) ℓ) : Prop :=
  ∀ c : Dev Cert.KernelIdeal.nD,
    (Cert.Pre_model_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_model_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_model_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_model_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_model_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_model_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_model_weights [hPre_model_weights : Cert.Pre_model_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_model_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_model_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_model_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_model_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_model_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_model_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_model_weights [hKernelIdeal : Cert.KernelIdeal.Facts] [hPre_model_weights : Cert.Pre_model_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_model_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_model_weights [hReferenceIdeal : Cert.ReferenceIdeal.Facts] [hPre_model_weights : Cert.Pre_model_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_model_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_model_weights [hKernelIdeal : Cert.KernelIdeal.Facts] [hReferenceIdeal : Cert.ReferenceIdeal.Facts] [hPre_model_weights : Cert.Pre_model_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_model_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_model_weights : Cert.Pre_model_weights.Facts),
    quiescent_Kernel (hKernel := hKernel)
    ∧ quiescent_KernelIdeal (hKernelIdeal := hKernelIdeal)
    ∧ quiescent_KernelIdeal_pre_model_weights (hKernelIdeal := hKernelIdeal) (hPre_model_weights := hPre_model_weights)
    ∧ quiescent_ReferenceIdeal (hReferenceIdeal := hReferenceIdeal)
    ∧ quiescent_ReferenceIdeal_pre_model_weights (hReferenceIdeal := hReferenceIdeal) (hPre_model_weights := hPre_model_weights)
    ∧ preserves_Kernel_KernelIdeal
    ∧ algebraic_KernelIdeal_ReferenceIdeal_pre_model_weights (hKernelIdeal := hKernelIdeal) (hReferenceIdeal := hReferenceIdeal) (hPre_model_weights := hPre_model_weights)
-- ==== Pre_model_weights.lean ====
abbrev S2x4096x1024 : Shape := ⟨3, ![2, 4096, 1024]⟩
abbrev S4416x1024 : Shape := ⟨2, ![4416, 1024]⟩
abbrev S8x64 : Shape := ⟨2, ![8, 64]⟩
abbrev S2048x4 : Shape := ⟨2, ![2048, 4]⟩
abbrev S2048 : Shape := ⟨1, ![2048]⟩
abbrev S8x16 : Shape := ⟨2, ![8, 16]⟩
abbrev S8x256 : Shape := ⟨2, ![8, 256]⟩
abbrev S8 : Shape := ⟨1, ![8]⟩
abbrev S1024x2048 : Shape := ⟨2, ![1024, 2048]⟩
abbrev S2048x1024 : Shape := ⟨2, ![2048, 1024]⟩
abbrev S16 : Shape := ⟨1, ![16]⟩
abbrev S_ : Shape := ⟨0, ![]⟩
abbrev S1x16 : Shape := ⟨2, ![1, 16]⟩

class Facts : Prop where
  bcast_S_S16 : S_.BroadcastsInDim S16 (![] : Fin 0 → Fin S16.rank)
  bcast_S16_S1x16_1 : S16.BroadcastsInDim S1x16 (![1] : Fin 1 → Fin S1x16.rank)
  bcast_S1x16_S8x16_0_1 : S1x16.BroadcastsInDim S8x16 (![0, 1] : Fin 2 → Fin S8x16.rank)
  bcast_S_S2x4096x1024 : S_.BroadcastsInDim S2x4096x1024 (![] : Fin 0 → Fin S2x4096x1024.rank)
  bcast_S_S4416x1024 : S_.BroadcastsInDim S4416x1024 (![] : Fin 0 → Fin S4416x1024.rank)
  bcast_S_S8x64 : S_.BroadcastsInDim S8x64 (![] : Fin 0 → Fin S8x64.rank)
  bcast_S_S2048x4 : S_.BroadcastsInDim S2048x4 (![] : Fin 0 → Fin S2048x4.rank)
  bcast_S_S2048 : S_.BroadcastsInDim S2048 (![] : Fin 0 → Fin S2048.rank)

variable [Facts]

def fn_part1 {F : FTy → Type} [FloatOps F] (main_arg4 : FVec F S2048 .f32) (main_v6 : IVec S8x16 1) (main_v9 : IVec S2x4096x1024 1) (main_v12 : IVec S4416x1024 1) (main_v15 : IVec S8x64 1) (main_v18 : IVec S2048x4 1) : IVec S8x16 1 × IVec S2x4096x1024 1 × IVec S4416x1024 1 × IVec S8x64 1 × IVec S2048x4 1 × IVec S2048 1 :=
  let main_v19 : FVec F S2048 .f32 := Host.absf main_arg4
  let main_cst_4 : FVec F S_ .f32 := constant S_ .f32 0x7F800000#32
  let main_v20 : FVec F S2048 .f32 := broadcastInDim S2048 ![] bcast_S_S2048 main_cst_4
  let main_v21 : IVec S2048 1 := cmpf .olt main_v19 main_v20
  (main_v6, main_v9, main_v12, main_v15, main_v18, main_v21)

def fn {F : FTy → Type} [FloatOps F] (main_arg0 : FVec F S2x4096x1024 .f32) (main_arg1 : FVec F S4416x1024 .f32) (main_arg2 : FVec F S8x64 .f32) (main_arg3 : FVec F S2048x4 .f32) (main_arg4 : FVec F S2048 .f32) (main_arg5 : FVec F S8x16 .f32) (main_arg6 : FVec F S8x256 .f32) (main_arg7 : FVec F S8 .f32) (main_arg8 : FVec F S2048 .f32) (main_arg9 : FVec F S1024x2048 .f32) (main_arg10 : FVec F S2048x1024 .f32) : IVec S8x16 1 × IVec S2x4096x1024 1 × IVec S4416x1024 1 × IVec S8x64 1 × IVec S2048x4 1 × IVec S2048 1 :=
  let main_v0 : FVec F S16 .f32 := sitofp .f32 (iotaInDim S16 32 0)
  let main_cst : FVec F S_ .f32 := constant S_ .f32 0x3F800000#32
  let main_v1 : FVec F S16 .f32 := broadcastInDim S16 ![] bcast_S_S16 main_cst
  let main_v2 : FVec F S16 .f32 := addf main_v1 main_v0
  let main_v3 : FVec F S16 .f32 := Host.log main_v2
  let main_v4 : FVec F S1x16 .f32 := broadcastInDim S1x16 ![1] bcast_S16_S1x16_1 main_v3
  let main_v5 : FVec F S8x16 .f32 := broadcastInDim S8x16 ![0, 1] bcast_S1x16_S8x16_0_1 main_v4
  let main_v6 : IVec S8x16 1 := cmpf .oeq main_arg5 main_v5
  let main_v7 : FVec F S2x4096x1024 .f32 := Host.absf main_arg0
  let main_cst_0 : FVec F S_ .f32 := constant S_ .f32 0x7F800000#32
  let main_v8 : FVec F S2x4096x1024 .f32 := broadcastInDim S2x4096x1024 ![] bcast_S_S2x4096x1024 main_cst_0
  let main_v9 : IVec S2x4096x1024 1 := cmpf .olt main_v7 main_v8
  let main_v10 : FVec F S4416x1024 .f32 := Host.absf main_arg1
  let main_cst_1 : FVec F S_ .f32 := constant S_ .f32 0x7F800000#32
  let main_v11 : FVec F S4416x1024 .f32 := broadcastInDim S4416x1024 ![] bcast_S_S4416x1024 main_cst_1
  let main_v12 : IVec S4416x1024 1 := cmpf .olt main_v10 main_v11
  let main_v13 : FVec F S8x64 .f32 := Host.absf main_arg2
  let main_cst_2 : FVec F S_ .f32 := constant S_ .f32 0x7F800000#32
  let main_v14 : FVec F S8x64 .f32 := broadcastInDim S8x64 ![] bcast_S_S8x64 main_cst_2
  let main_v15 : IVec S8x64 1 := cmpf .olt main_v13 main_v14
  let main_v16 : FVec F S2048x4 .f32 := Host.absf main_arg3
  let main_cst_3 : FVec F S_ .f32 := constant S_ .f32 0x7F800000#32
  let main_v17 : FVec F S2048x4 .f32 := broadcastInDim S2048x4 ![] bcast_S_S2048x4 main_cst_3
  let main_v18 : IVec S2048x4 1 := cmpf .olt main_v16 main_v17
  fn_part1 (F := F) main_arg4 main_v6 main_v9 main_v12 main_v15 main_v18
-- ==== Kernel.lean ====
abbrev S2x4096x1024 : Shape := ⟨3, ![2, 4096, 1024]⟩
abbrev S4416x1024 : Shape := ⟨2, ![4416, 1024]⟩
abbrev S8x64 : Shape := ⟨2, ![8, 64]⟩
abbrev S2048x4 : Shape := ⟨2, ![2048, 4]⟩
abbrev S2048 : Shape := ⟨1, ![2048]⟩
abbrev S8x16 : Shape := ⟨2, ![8, 16]⟩
abbrev S8x256 : Shape := ⟨2, ![8, 256]⟩
abbrev S8 : Shape := ⟨1, ![8]⟩
abbrev S1024x2048 : Shape := ⟨2, ![1024, 2048]⟩
abbrev S2048x1024 : Shape := ⟨2, ![2048, 1024]⟩
abbrev S8192x1024 : Shape := ⟨2, ![8192, 1024]⟩
abbrev S64x1024 : Shape := ⟨2, ![64, 1024]⟩
abbrev S256x1024 : Shape := ⟨2, ![256, 1024]⟩
abbrev S8x1024 : Shape := ⟨2, ![8, 1024]⟩
abbrev S1x8 : Shape := ⟨2, ![1, 8]⟩
abbrev S8192x2048 : Shape := ⟨2, ![8192, 2048]⟩
abbrev S8192x8 : Shape := ⟨2, ![8192, 8]⟩
abbrev S8192x256 : Shape := ⟨2, ![8192, 256]⟩
abbrev S512x1024 : Shape := ⟨2, ![512, 1024]⟩
abbrev S512x2048 : Shape := ⟨2, ![512, 2048]⟩
abbrev S512x8 : Shape := ⟨2, ![512, 8]⟩
abbrev S512x256 : Shape := ⟨2, ![512, 256]⟩
abbrev S8192x128 : Shape := ⟨2, ![8192, 128]⟩
abbrev S2x4096x8x16 : Shape := ⟨4, ![2, 4096, 8, 16]⟩
abbrev S2x8x16x4096 : Shape := ⟨4, ![2, 8, 16, 4096]⟩
abbrev S2x8x4096x16 : Shape := ⟨4, ![2, 8, 4096, 16]⟩
abbrev S8x1x16 : Shape := ⟨3, ![8, 1, 16]⟩
abbrev S8x16x1 : Shape := ⟨3, ![8, 16, 1]⟩
abbrev S8x256x4 : Shape := ⟨3, ![8, 256, 4]⟩
abbrev S8x4x256 : Shape := ⟨3, ![8, 4, 256]⟩
abbrev S8x1x256 : Shape := ⟨3, ![8, 1, 256]⟩
abbrev S2x4096x2048 : Shape := ⟨3, ![2, 4096, 2048]⟩
abbrev S2x4096x8 : Shape := ⟨3, ![2, 4096, 8]⟩
abbrev S128 : Shape := ⟨1, ![128]⟩
abbrev S_ : Shape := ⟨0, ![]⟩
abbrev S1x128 : Shape := ⟨2, ![1, 128]⟩
abbrev S128x1 : Shape := ⟨2, ![128, 1]⟩
abbrev S128x128 : Shape := ⟨2, ![128, 128]⟩
abbrev S384x128 : Shape := ⟨2, ![384, 128]⟩
abbrev S1x384x128 : Shape := ⟨3, ![1, 384, 128]⟩
abbrev S2x384x128 : Shape := ⟨3, ![2, 384, 128]⟩
abbrev S1x1024x256 : Shape := ⟨3, ![1, 1024, 256]⟩
abbrev S1x1024x8 : Shape := ⟨3, ![1, 1024, 8]⟩
abbrev S1x1x16x1024 : Shape := ⟨4, ![1, 1, 16, 1024]⟩
abbrev S1x1x1024x16 : Shape := ⟨4, ![1, 1, 1024, 16]⟩
abbrev S1x1x16 : Shape := ⟨3, ![1, 1, 16]⟩
abbrev S1x16x1 : Shape := ⟨3, ![1, 16, 1]⟩
abbrev S1x4x256 : Shape := ⟨3, ![1, 4, 256]⟩
abbrev S1x1x256 : Shape := ⟨3, ![1, 1, 256]⟩
abbrev S16x256 : Shape := ⟨2, ![16, 256]⟩
abbrev S128x256 : Shape := ⟨2, ![128, 256]⟩
abbrev S4x256 : Shape := ⟨2, ![4, 256]⟩
abbrev S1x16 : Shape := ⟨2, ![1, 16]⟩
abbrev S16x1 : Shape := ⟨2, ![16, 1]⟩
abbrev S1x128x256 : Shape := ⟨3, ![1, 128, 256]⟩
abbrev S1x256 : Shape := ⟨2, ![1, 256]⟩
abbrev S384x256 : Shape := ⟨2, ![384, 256]⟩
abbrev S1x128x8 : Shape := ⟨3, ![1, 128, 8]⟩
abbrev S128x8 : Shape := ⟨2, ![128, 8]⟩
abbrev S1x1 : Shape := ⟨2, ![1, 1]⟩
abbrev S1x1x16x128 : Shape := ⟨4, ![1, 1, 16, 128]⟩
abbrev S16x128 : Shape := ⟨2, ![16, 128]⟩
abbrev S1x1x128x16 : Shape := ⟨4, ![1, 1, 128, 16]⟩
abbrev S128x16 : Shape := ⟨2, ![128, 16]⟩
abbrev S1x2048 : Shape := ⟨2, ![1, 2048]⟩
abbrev S512 : Shape := ⟨1, ![512]⟩
abbrev S512x1 : Shape := ⟨2, ![512, 1]⟩

abbrev nBuf : Space → Nat
  | .hbm => 123
  | .vmem => 49
  | .smem => 0
  | _ => 0

abbrev bufTy : (tb : Table) → Fin (tcTables nBuf tb) → BufTy
  | .hbm, ⟨0, _⟩ => ⟨S2x4096x1024, .f32⟩
  | .hbm, ⟨1, _⟩ => ⟨S4416x1024, .f32⟩
  | .hbm, ⟨2, _⟩ => ⟨S8x64, .f32⟩
  | .hbm, ⟨3, _⟩ => ⟨S2048x4, .f32⟩
  | .hbm, ⟨4, _⟩ => ⟨S2048, .f32⟩
  | .hbm, ⟨5, _⟩ => ⟨S8x16, .f32⟩
  | .hbm, ⟨6, _⟩ => ⟨S8x256, .f32⟩
  | .hbm, ⟨7, _⟩ => ⟨S8, .f32⟩
  | .hbm, ⟨8, _⟩ => ⟨S2048, .f32⟩
  | .hbm, ⟨9, _⟩ => ⟨S1024x2048, .f32⟩
  | .hbm, ⟨10, _⟩ => ⟨S2048x1024, .f32⟩
  | .hbm, ⟨11, _⟩ => ⟨S8192x1024, .f32⟩
  | .hbm, ⟨12, _⟩ => ⟨S2048x1024, .f32⟩
  | .hbm, ⟨13, _⟩ => ⟨S2048x1024, .f32⟩
  | .hbm, ⟨14, _⟩ => ⟨S64x1024, .f32⟩
  | .hbm, ⟨15, _⟩ => ⟨S256x1024, .f32⟩
  | .hbm, ⟨16, _⟩ => ⟨S8x1024, .f32⟩
  | .hbm, ⟨17, _⟩ => ⟨S1x8, .f32⟩
  | .hbm, ⟨18, _⟩ => ⟨S8192x2048, .bf16⟩
  | .hbm, ⟨19, _⟩ => ⟨S8192x2048, .bf16⟩
  | .hbm, ⟨20, _⟩ => ⟨S8192x8, .f32⟩
  | .hbm, ⟨21, _⟩ => ⟨S8192x256, .f32⟩
  | .hbm, ⟨22, _⟩ => ⟨S8192x128, .f32⟩
  | .hbm, ⟨23, _⟩ => ⟨S2x4096x8x16, .f32⟩
  | .hbm, ⟨24, _⟩ => ⟨S2x8x16x4096, .f32⟩
  | .hbm, ⟨25, _⟩ => ⟨S8192x128, .f32⟩
  | .hbm, ⟨26, _⟩ => ⟨S2x4096x8x16, .f32⟩
  | .hbm, ⟨27, _⟩ => ⟨S2x8x4096x16, .f32⟩
  | .hbm, ⟨28, _⟩ => ⟨S8x16, .f32⟩
  | .hbm, ⟨29, _⟩ => ⟨S8x16, .f32⟩
  | .hbm, ⟨30, _⟩ => ⟨S8x1x16, .f32⟩
  | .hbm, ⟨31, _⟩ => ⟨S8x16x1, .f32⟩
  | .hbm, ⟨32, _⟩ => ⟨S8x256x4, .f32⟩
  | .hbm, ⟨33, _⟩ => ⟨S8x4x256, .f32⟩
  | .hbm, ⟨34, _⟩ => ⟨S8x1x256, .f32⟩
  | .hbm, ⟨35, _⟩ => ⟨S2x4096x2048, .bf16⟩
  | .hbm, ⟨36, _⟩ => ⟨S2x4096x2048, .bf16⟩
  | .hbm, ⟨37, _⟩ => ⟨S2x4096x8, .f32⟩
  | .hbm, ⟨38, _⟩ => ⟨S8x1x256, .f32⟩
  | .hbm, ⟨39, _⟩ => ⟨S128, .i32⟩
  | .hbm, ⟨40, _⟩ => ⟨S128, .i32⟩
  | .hbm, ⟨41, _⟩ => ⟨S_, .i32⟩
  | .hbm, ⟨42, _⟩ => ⟨S128, .i32⟩
  | .hbm, ⟨43, _⟩ => ⟨S128, .i32⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S1x128, .i32⟩
  | .hbm, ⟨48, _⟩ => ⟨S128x1, .i32⟩
  | .hbm, ⟨49, _⟩ => ⟨S128x128, .i32⟩
  | .hbm, ⟨50, _⟩ => ⟨S128x128, .i32⟩
  | .hbm, ⟨51, _⟩ => ⟨S128x128, .i1⟩
  | .hbm, ⟨52, _⟩ => ⟨S128x128, .f32⟩
  | .hbm, ⟨53, _⟩ => ⟨S_, .i32⟩
  | .hbm, ⟨54, _⟩ => ⟨S128, .i32⟩
  | .hbm, ⟨55, _⟩ => ⟨S128, .i32⟩
  | .hbm, ⟨56, _⟩ => ⟨S_, .i32⟩
  | .hbm, ⟨57, _⟩ => ⟨S128, .i32⟩
  | .hbm, ⟨58, _⟩ => ⟨S128, .i32⟩
  | .hbm, ⟨59, _⟩ => ⟨S1x128, .i32⟩
  | .hbm, ⟨60, _⟩ => ⟨S128x1, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S128x128, .f32⟩
  | .hbm, ⟨65, _⟩ => ⟨S_, .i32⟩
  | .hbm, ⟨66, _⟩ => ⟨S128, .i32⟩
  | .hbm, ⟨67, _⟩ => ⟨S128, .i32⟩
  | .hbm, ⟨68, _⟩ => ⟨S_, .i32⟩
  | .hbm, ⟨69, _⟩ => ⟨S128, .i32⟩
  | .hbm, ⟨70, _⟩ => ⟨S128, .i32⟩
  | .hbm, ⟨71, _⟩ => ⟨S1x128, .i32⟩
  | .hbm, ⟨72, _⟩ => ⟨S128x1, .i32⟩
  | .hbm, ⟨73, _⟩ => ⟨S128x128, .i32⟩
  | .hbm, ⟨74, _⟩ => ⟨S128x128, .i32⟩
  | .hbm, ⟨75, _⟩ => ⟨S128x128, .i1⟩
  | .hbm, ⟨76, _⟩ => ⟨S128x128, .f32⟩
  | .hbm, ⟨77, _⟩ => ⟨S384x128, .f32⟩
  | .hbm, ⟨78, _⟩ => ⟨S_, .i32⟩
  | .hbm, ⟨79, _⟩ => ⟨S128, .i32⟩
  | .hbm, ⟨80, _⟩ => ⟨S128, .i32⟩
  | .hbm, ⟨81, _⟩ => ⟨S_, .i32⟩
  | .hbm, ⟨82, _⟩ => ⟨S128, .i32⟩
  | .hbm, ⟨83, _⟩ => ⟨S128, .i32⟩
  | .hbm, ⟨84, _⟩ => ⟨S1x128, .i32⟩
  | .hbm, ⟨85, _⟩ => ⟨S128x1, .i32⟩
  | .hbm, ⟨86, _⟩ => ⟨S128x128, .i32⟩
  | .hbm, ⟨87, _⟩ => ⟨S128x128, .i32⟩
  | .hbm, ⟨88, _⟩ => ⟨S128x128, .i1⟩
  | .hbm, ⟨89, _⟩ => ⟨S128x128, .f32⟩
  | .hbm, ⟨90, _⟩ => ⟨S_, .i32⟩
  | .hbm, ⟨91, _⟩ => ⟨S128, .i32⟩
  | .hbm, ⟨92, _⟩ => ⟨S128, .i32⟩
  | .hbm, ⟨93, _⟩ => ⟨S_, .i32⟩
  | .hbm, ⟨94, _⟩ => ⟨S128, .i32⟩
  | .hbm, ⟨95, _⟩ => ⟨S128, .i32⟩
  | .hbm, ⟨96, _⟩ => ⟨S1x128, .i32⟩
  | .hbm, ⟨97, _⟩ => ⟨S128x1, .i32⟩
  | .hbm, ⟨98, _⟩ => ⟨S128x128, .i32⟩
  | .hbm, ⟨99, _⟩ => ⟨S128x128, .i32⟩
  | .hbm, ⟨100, _⟩ => ⟨S128x128, .i1⟩
  | .hbm, ⟨101, _⟩ => ⟨S128x128, .f32⟩
  | .hbm, ⟨102, _⟩ => ⟨S_, .i32⟩
  | .hbm, ⟨103, _⟩ => ⟨S128, .i32⟩
  | .hbm, ⟨104, _⟩ => ⟨S128, .i32⟩
  | .hbm, ⟨105, _⟩ => ⟨S_, .i32⟩
  | .hbm, ⟨106, _⟩ => ⟨S128, .i32⟩
  | .hbm, ⟨107, _⟩ => ⟨S128, .i32⟩
  | .hbm, ⟨108, _⟩ => ⟨S1x128, .i32⟩
  | .hbm, ⟨109, _⟩ => ⟨S128x1, .i32⟩
  | .hbm, ⟨110, _⟩ => ⟨S128x128, .i32⟩
  | .hbm, ⟨111, _⟩ => ⟨S128x128, .i32⟩
  | .hbm, ⟨112, _⟩ => ⟨S128x128, .i1⟩
  | .hbm, ⟨113, _⟩ => ⟨S128x128, .f32⟩
  | .hbm, ⟨114, _⟩ => ⟨S384x128, .f32⟩
  | .hbm, ⟨115, _⟩ => ⟨S1x384x128, .f32⟩
  | .hbm, ⟨116, _⟩ => ⟨S1x384x128, .f32⟩
  | .hbm, ⟨117, _⟩ => ⟨S2x384x128, .f32⟩
  | .hbm, ⟨118, _⟩ => ⟨S2x4096x2048, .bf16⟩
  | .hbm, ⟨119, _⟩ => ⟨S8192x2048, .bf16⟩
  | .hbm, ⟨120, _⟩ => ⟨S1x2048, .f32⟩
  | .hbm, ⟨121, _⟩ => ⟨S8192x1024, .f32⟩
  | .hbm, ⟨122, _⟩ => ⟨S2x4096x1024, .f32⟩
  | .local _ .vmem, ⟨0, _⟩ => ⟨S512x1024, .f32⟩
  | .local _ .vmem, ⟨1, _⟩ => ⟨S512x1024, .f32⟩
  | .local _ .vmem, ⟨2, _⟩ => ⟨S2048x1024, .f32⟩
  | .local _ .vmem, ⟨3, _⟩ => ⟨S2048x1024, .f32⟩
  | .local _ .vmem, ⟨4, _⟩ => ⟨S8x1024, .f32⟩
  | .local _ .vmem, ⟨5, _⟩ => ⟨S256x1024, .f32⟩
  | .local _ .vmem, ⟨6, _⟩ => ⟨S1x8, .f32⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x8, .f32⟩
  | .local _ .vmem, ⟨12, _⟩ => ⟨S512x8, .f32⟩
  | .local _ .vmem, ⟨13, _⟩ => ⟨S512x256, .f32⟩
  | .local _ .vmem, ⟨14, _⟩ => ⟨S512x256, .f32⟩
  | .local _ .vmem, ⟨15, _⟩ => ⟨S1x1024x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x1024x256, .bf16⟩
  | .local _ .vmem, ⟨19, _⟩ => ⟨S1x1024x8, .f32⟩
  | .local _ .vmem, ⟨20, _⟩ => ⟨S1x1024x8, .f32⟩
  | .local _ .vmem, ⟨21, _⟩ => ⟨S1x1x16x1024, .f32⟩
  | .local _ .vmem, ⟨22, _⟩ => ⟨S1x1x16x1024, .f32⟩
  | .local _ .vmem, ⟨23, _⟩ => ⟨S1x1x1024x16, .f32⟩
  | .local _ .vmem, ⟨24, _⟩ => ⟨S1x1x1024x16, .f32⟩
  | .local _ .vmem, ⟨25, _⟩ => ⟨S1x1x16, .f32⟩
  | .local _ .vmem, ⟨26, _⟩ => ⟨S1x1x16, .f32⟩
  | .local _ .vmem, ⟨27, _⟩ => ⟨S1x16x1, .f32⟩
  | .local _ .vmem, ⟨28, _⟩ => ⟨S1x16x1, .f32⟩
  | .local _ .vmem, ⟨29, _⟩ => ⟨S1x4x256, .f32⟩
  | .local _ .vmem, ⟨30, _⟩ => ⟨S1x4x256, .f32⟩
  | .local _ .vmem, ⟨31, _⟩ => ⟨S1x1x256, .f32⟩
  | .local _ .vmem, ⟨32, _⟩ => ⟨S1x1x256, .f32⟩
  | .local _ .vmem, ⟨33, _⟩ => ⟨S1x1x256, .f32⟩
  | .local _ .vmem, ⟨34, _⟩ => ⟨S1x1x256, .f32⟩
  | .local _ .vmem, ⟨35, _⟩ => ⟨S2x384x128, .f32⟩
  | .local _ .vmem, ⟨36, _⟩ => ⟨S1x1024x256, .bf16⟩
  | .local _ .vmem, ⟨37, _⟩ => ⟨S1x1024x256, .bf16⟩
  | .local _ .vmem, ⟨38, _⟩ => ⟨S16x256, .f32⟩
  | .local _ .vmem, ⟨39, _⟩ => ⟨S128x256, .f32⟩
  | .local _ .vmem, ⟨40, _⟩ => ⟨S512x2048, .bf16⟩
  | .local _ .vmem, ⟨41, _⟩ => ⟨S512x2048, .bf16⟩
  | .local _ .vmem, ⟨42, _⟩ => ⟨S512x1024, .f32⟩
  | .local _ .vmem, ⟨43, _⟩ => ⟨S512x1024, .f32⟩
  | .local _ .vmem, ⟨44, _⟩ => ⟨S2048x1024, .f32⟩
  | .local _ .vmem, ⟨45, _⟩ => ⟨S1024x2048, .f32⟩
  | .local _ .vmem, ⟨46, _⟩ => ⟨S1x2048, .f32⟩
  | .local _ .vmem, ⟨47, _⟩ => ⟨S512x1024, .f32⟩
  | .local _ .vmem, ⟨48, _⟩ => ⟨S512x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c : Ref sig .tc := ⟨.hbm, 41, rfl⟩
abbrev main_v27 : Ref sig .tc := ⟨.hbm, 42, rfl⟩
abbrev main_v28 : Ref sig .tc := ⟨.hbm, 43, rfl⟩
abbrev main_c_0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_1 : Ref sig .tc := ⟨.hbm, 53, rfl⟩
abbrev main_v37 : Ref sig .tc := ⟨.hbm, 54, rfl⟩
abbrev main_v38 : Ref sig .tc := ⟨.hbm, 55, rfl⟩
abbrev main_c_2 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_3 : Ref sig .tc := ⟨.hbm, 65, rfl⟩
abbrev main_v47 : Ref sig .tc := ⟨.hbm, 66, rfl⟩
abbrev main_v48 : Ref sig .tc := ⟨.hbm, 67, rfl⟩
abbrev main_c_4 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_5 : Ref sig .tc := ⟨.hbm, 78, rfl⟩
abbrev main_v58 : Ref sig .tc := ⟨.hbm, 79, rfl⟩
abbrev main_v59 : Ref sig .tc := ⟨.hbm, 80, rfl⟩
abbrev main_c_6 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_7 : Ref sig .tc := ⟨.hbm, 90, rfl⟩
abbrev main_v68 : Ref sig .tc := ⟨.hbm, 91, rfl⟩
abbrev main_v69 : Ref sig .tc := ⟨.hbm, 92, rfl⟩
abbrev main_c_8 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_c_9 : Ref sig .tc := ⟨.hbm, 102, rfl⟩
abbrev main_v78 : Ref sig .tc := ⟨.hbm, 103, rfl⟩
abbrev main_v79 : Ref sig .tc := ⟨.hbm, 104, rfl⟩
abbrev main_c_10 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_stg9_0 : Ref sig .tc := ⟨.vmem, 33, rfl⟩
abbrev cc1_stg9_1 : Ref sig .tc := ⟨.vmem, 34, rfl⟩
abbrev cc1_stg10_0 : Ref sig .tc := ⟨.vmem, 35, rfl⟩
abbrev cc1_stg11_0 : Ref sig .tc := ⟨.vmem, 36, rfl⟩
abbrev cc1_stg11_1 : Ref sig .tc := ⟨.vmem, 37, rfl⟩
abbrev cc1_scratch0 : Ref sig .tc := ⟨.vmem, 38, rfl⟩
abbrev cc1_scratch1 : Ref sig .tc := ⟨.vmem, 39, rfl⟩
abbrev cc2_stg0_0 : Ref sig .tc := ⟨.vmem, 40, rfl⟩
abbrev cc2_stg0_1 : Ref sig .tc := ⟨.vmem, 41, rfl⟩
abbrev cc2_stg1_0 : Ref sig .tc := ⟨.vmem, 42, rfl⟩
abbrev cc2_stg1_1 : Ref sig .tc := ⟨.vmem, 43, rfl⟩
abbrev cc2_stg2_0 : Ref sig .tc := ⟨.vmem, 44, rfl⟩
abbrev cc2_stg3_0 : Ref sig .tc := ⟨.vmem, 45, rfl⟩
abbrev cc2_stg4_0 : Ref sig .tc := ⟨.vmem, 46, rfl⟩
abbrev cc2_stg5_0 : Ref sig .tc := ⟨.vmem, 47, rfl⟩
abbrev cc2_stg5_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem6_1 : DmaSem sig := 28
abbrev cc1_sem7_0 : DmaSem sig := 29
abbrev cc1_sem7_1 : DmaSem sig := 30
abbrev cc1_sem8_0 : DmaSem sig := 31
abbrev cc1_sem8_1 : DmaSem sig := 32
abbrev cc1_sem9_0 : DmaSem sig := 33
abbrev cc1_sem9_1 : DmaSem sig := 34
abbrev cc1_sem10_0 : DmaSem sig := 35
abbrev cc1_sem11_0 : DmaSem sig := 36
abbrev cc1_sem11_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem3_0 : DmaSem sig := 43
abbrev cc2_sem4_0 : DmaSem sig := 44
abbrev cc2_sem5_0 : DmaSem sig := 45
abbrev cc2_sem5_1 : DmaSem sig := 46

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc1_transform_3 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat, arg1.toNat]

def cc1_transform_4 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc1_transform_5 (i : grid1.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_6 (i : grid1.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_7 (i : grid1.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_8 (i : grid1.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_9 (i : grid1.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x16x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1024x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x16x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x4x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 1 → Memref sig .tc .vmem S2x384x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S1x1024x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S2x4096x1024 : Shape := ⟨3, ![2, 4096, 1024]⟩
abbrev S4416x1024 : Shape := ⟨2, ![4416, 1024]⟩
abbrev S8x64 : Shape := ⟨2, ![8, 64]⟩
abbrev S2048x4 : Shape := ⟨2, ![2048, 4]⟩
abbrev S2048 : Shape := ⟨1, ![2048]⟩
abbrev S8x16 : Shape := ⟨2, ![8, 16]⟩
abbrev S8x256 : Shape := ⟨2, ![8, 256]⟩
abbrev S8 : Shape := ⟨1, ![8]⟩
abbrev S1024x2048 : Shape := ⟨2, ![1024, 2048]⟩
abbrev S2048x1024 : Shape := ⟨2, ![2048, 1024]⟩
abbrev S1024x4416 : Shape := ⟨2, ![1024, 4416]⟩
abbrev S2x4096x4416 : Shape := ⟨3, ![2, 4096, 4416]⟩
abbrev S2x4096x2048 : Shape := ⟨3, ![2, 4096, 2048]⟩
abbrev S2x4096x64 : Shape := ⟨3, ![2, 4096, 64]⟩
abbrev S2x4096x128 : Shape := ⟨3, ![2, 4096, 128]⟩
abbrev S2x4096x8x16 : Shape := ⟨4, ![2, 4096, 8, 16]⟩
abbrev S_ : Shape := ⟨0, ![]⟩
abbrev S2x4099x2048 : Shape := ⟨3, ![2, 4099, 2048]⟩
abbrev S2048x1 : Shape := ⟨2, ![2048, 1]⟩
abbrev S1x1x2048 : Shape := ⟨3, ![1, 1, 2048]⟩
abbrev S64x8 : Shape := ⟨2, ![64, 8]⟩
abbrev S2x4096x8 : Shape := ⟨3, ![2, 4096, 8]⟩
abbrev S1x1x8 : Shape := ⟨3, ![1, 1, 8]⟩
abbrev S2x4096x8x256 : Shape := ⟨4, ![2, 4096, 8, 256]⟩
abbrev S2x8x256x16 : Shape := ⟨4, ![2, 8, 256, 16]⟩
abbrev S4096x2x8x256 : Shape := ⟨4, ![4096, 2, 8, 256]⟩
abbrev S4096x2x8 : Shape := ⟨3, ![4096, 2, 8]⟩
abbrev S4096x2x8x16 : Shape := ⟨4, ![4096, 2, 8, 16]⟩
abbrev S1x2x8x256 : Shape := ⟨4, ![1, 2, 8, 256]⟩
abbrev S2x8x256 : Shape := ⟨3, ![2, 8, 256]⟩
abbrev S1x2x8 : Shape := ⟨3, ![1, 2, 8]⟩
abbrev S2x8 : Shape := ⟨2, ![2, 8]⟩
abbrev S1x2x8x16 : Shape := ⟨4, ![1, 2, 8, 16]⟩
abbrev S2x8x16 : Shape := ⟨3, ![2, 8, 16]⟩
abbrev S2x8x1 : Shape := ⟨3, ![2, 8, 1]⟩
abbrev S1x8x16 : Shape := ⟨3, ![1, 8, 16]⟩
abbrev S2x8x1x16 : Shape := ⟨4, ![2, 8, 1, 16]⟩
abbrev S2x8x1x1 : Shape := ⟨4, ![2, 8, 1, 1]⟩
abbrev S2x8x256x1 : Shape := ⟨4, ![2, 8, 256, 1]⟩
abbrev S1x8x256 : Shape := ⟨3, ![1, 8, 256]⟩
abbrev S2x4096 : Shape := ⟨2, ![2, 4096]⟩
abbrev S2x4096x1 : Shape := ⟨3, ![2, 4096, 1]⟩

abbrev nBuf : Space → Nat
  | .hbm => 196
  | .vmem => 0
  | .smem => 0
  | _ => 0

abbrev hbmTy0_0 (i : Nat) : BufTy := match i % 128 with
  | 0 => ⟨S2x4096x1024, .f32⟩
  | 1 => ⟨S4416x1024, .f32⟩
  | 2 => ⟨S8x64, .f32⟩
  | 3 => ⟨S2048x4, .f32⟩
  | 4 => ⟨S2048, .f32⟩
  | 5 => ⟨S8x16, .f32⟩
  | 6 => ⟨S8x256, .f32⟩
  | 7 => ⟨S8, .f32⟩
  | 8 => ⟨S2048, .f32⟩
  | 9 => ⟨S1024x2048, .f32⟩
  | 10 => ⟨S2048x1024, .f32⟩
  | 11 => ⟨S1024x4416, .f32⟩
  | 12 => ⟨S2x4096x4416, .f32⟩
  | 13 => ⟨S2x4096x2048, .f32⟩
  | 14 => ⟨S2x4096x2048, .f32⟩
  | 15 => ⟨S2x4096x64, .f32⟩
  | 16 => ⟨S2x4096x128, .f32⟩
  | 17 => ⟨S2x4096x128, .f32⟩
  | 18 => ⟨S2x4096x8x16, .f32⟩
  | 19 => ⟨S2x4096x8x16, .f32⟩
  | 20 => ⟨S_, .i32⟩
  | 21 => ⟨S_, .f32⟩
  | 22 => ⟨S2x4099x2048, .f32⟩
  | 23 => ⟨S2x4096x2048, .f32⟩
  | 24 => ⟨S2048x1, .f32⟩
  | 25 => ⟨S2048, .f32⟩
  | 26 => ⟨S1x1x2048, .f32⟩
  | 27 => ⟨S2x4096x2048, .f32⟩
  | 28 => ⟨S2x4096x2048, .f32⟩
  | 29 => ⟨S_, .f32⟩
  | 30 => ⟨S2x4096x2048, .f32⟩
  | 31 => ⟨S2x4096x2048, .f32⟩
  | 32 => ⟨S2x4096x2048, .f32⟩
  | 33 => ⟨S2048x1, .f32⟩
  | 34 => ⟨S2048, .f32⟩
  | 35 => ⟨S1x1x2048, .f32⟩
  | 36 => ⟨S2x4096x2048, .f32⟩
  | 37 => ⟨S2x4096x2048, .f32⟩
  | 38 => ⟨S2x4096x2048, .f32⟩
  | 39 => ⟨S2x4096x2048, .f32⟩
  | 40 => ⟨S2048x1, .f32⟩
  | 41 => ⟨S2048, .f32⟩
  | 42 => ⟨S1x1x2048, .f32⟩
  | 43 => ⟨S2x4096x2048, .f32⟩
  | 44 => ⟨S2x4096x2048, .f32⟩
  | 45 => ⟨S2x4096x2048, .f32⟩
  | 46 => ⟨S2x4096x2048, .f32⟩
  | 47 => ⟨S2048x1, .f32⟩
  | 48 => ⟨S2048, .f32⟩
  | 49 => ⟨S1x1x2048, .f32⟩
  | 50 => ⟨S2x4096x2048, .f32⟩
  | 51 => ⟨S2x4096x2048, .f32⟩
  | 52 => ⟨S2x4096x2048, .f32⟩
  | 53 => ⟨S1x1x2048, .f32⟩
  | 54 => ⟨S2x4096x2048, .f32⟩
  | 55 => ⟨S2x4096x2048, .f32⟩
  | 56 => ⟨S64x8, .f32⟩
  | 57 => ⟨S2x4096x8, .f32⟩
  | 58 => ⟨S1x1x8, .f32⟩
  | 59 => ⟨S2x4096x8, .f32⟩
  | 60 => ⟨S2x4096x8, .f32⟩
  | 61 => ⟨S_, .f32⟩
  | 62 => ⟨S2x4096x8, .f32⟩
  | 63 => ⟨S2x4096x8, .f32⟩
  | 64 => ⟨S2x4096x8, .f32⟩
  | 65 => ⟨S2x4096x8, .f32⟩
  | 66 => ⟨S2x4096x8, .i1⟩
  | 67 => ⟨S2x4096x8, .f32⟩
  | 68 => ⟨S2x4096x8, .f32⟩
  | 69 => ⟨S2x4096x8, .f32⟩
  | 70 => ⟨S2x4096x8, .f32⟩
  | 71 => ⟨S2x4096x8, .f32⟩
  | 72 => ⟨S2x4096x8, .f32⟩
  | 73 => ⟨S2x4096x8, .f32⟩
  | 74 => ⟨S2x4096x8, .f32⟩
  | 75 => ⟨S_, .f32⟩
  | 76 => ⟨S_, .f32⟩
  | 77 => ⟨S_, .f32⟩
  | 78 => ⟨S2x4096x8, .f32⟩
  | 79 => ⟨S2x4096x8, .f32⟩
  | 80 => ⟨S_, .f32⟩
  | 81 => ⟨S2x4096x8, .f32⟩
  | 82 => ⟨S2x4096x8, .f32⟩
  | 83 => ⟨S8x16, .f32⟩
  | 84 => ⟨S8x16, .f32⟩
  | 85 => ⟨S2x4096x8x256, .f32⟩
  | 86 => ⟨S2x4096x8x256, .f32⟩
  | 87 => ⟨S_, .f32⟩
  | 88 => ⟨S2x8x256x16, .f32⟩
  | 89 => ⟨S4096x2x8x256, .f32⟩
  | 90 => ⟨S4096x2x8x256, .f32⟩
  | 91 => ⟨S4096x2x8, .f32⟩
  | 92 => ⟨S4096x2x8x16, .f32⟩
  | 93 => ⟨S4096x2x8x16, .f32⟩
  | 94 => ⟨S_, .f32⟩
  | 95 => ⟨S4096x2x8x256, .f32⟩
  | 96 => ⟨S_, .i32⟩
  | 97 => ⟨S4096x2x8x256, .f32⟩
  | 98 => ⟨S4096x2x8x256, .f32⟩
  | 99 => ⟨S4096x2x8, .f32⟩
  | 100 => ⟨S4096x2x8x16, .f32⟩
  | 101 => ⟨S4096x2x8x16, .f32⟩
  | 102 => ⟨S8x16, .f32⟩
  | 103 => ⟨S8x256, .f32⟩
  | 104 => ⟨S_, .i32⟩
  | 105 => ⟨S2x8x256x16, .f32⟩
  | 106 => ⟨S4096x2x8x256, .f32⟩
  | 107 => ⟨S_, .i32⟩
  | 108 => ⟨S_, .i1⟩
  | 109 => ⟨S_, .i32⟩
  | 110 => ⟨S_, .i32⟩
  | 111 => ⟨S_, .i32⟩
  | 112 => ⟨S1x2x8x256, .f32⟩
  | 113 => ⟨S2x8x256, .f32⟩
  | 114 => ⟨S_, .i32⟩
  | 115 => ⟨S_, .i32⟩
  | 116 => ⟨S_, .i32⟩
  | 117 => ⟨S1x2x8x256, .f32⟩
  | 118 => ⟨S2x8x256, .f32⟩
  | 119 => ⟨S_, .i32⟩
  | 120 => ⟨S_, .i32⟩
  | 121 => ⟨S1x2x8, .f32⟩
  | 122 => ⟨S2x8, .f32⟩
  | 123 => ⟨S_, .i32⟩
  | 124 => ⟨S_, .i32⟩
  | 125 => ⟨S_, .i32⟩
  | 126 => ⟨S1x2x8x16, .f32⟩
  | 127 => ⟨S2x8x16, .f32⟩
  | _ => ⟨S2x4096x1024, .f32⟩

abbrev hbmTy0_1 (i : Nat) : BufTy := match i % 128 with
  | 0 => ⟨S_, .i32⟩
  | 1 => ⟨S_, .i32⟩
  | 2 => ⟨S_, .i32⟩
  | 3 => ⟨S1x2x8x16, .f32⟩
  | 4 => ⟨S2x8x16, .f32⟩
  | 5 => ⟨S2x8x1, .f32⟩
  | 6 => ⟨S1x8x16, .f32⟩
  | 7 => ⟨S2x8x16, .f32⟩
  | 8 => ⟨S2x8x16, .f32⟩
  | 9 => ⟨S2x8x16, .f32⟩
  | 10 => ⟨S2x8x16, .f32⟩
  | 11 => ⟨S2x8x1x16, .f32⟩
  | 12 => ⟨S2x8x256x16, .f32⟩
  | 13 => ⟨S2x8x256x16, .f32⟩
  | 14 => ⟨S2x8x1x1, .f32⟩
  | 15 => ⟨S2x8x256x1, .f32⟩
  | 16 => ⟨S2x8x256x1, .f32⟩
  | 17 => ⟨S2x8x256x1, .f32⟩
  | 18 => ⟨S2x8x1x16, .f32⟩
  | 19 => ⟨S2x8x256x16, .f32⟩
  | 20 => ⟨S2x8x256x16, .f32⟩
  | 21 => ⟨S2x8x256x16, .f32⟩
  | 22 => ⟨S2x8x256x16, .f32⟩
  | 23 => ⟨S2x8x256, .f32⟩
  | 24 => ⟨S1x8x256, .f32⟩
  | 25 => ⟨S2x8x256, .f32⟩
  | 26 => ⟨S2x8x256, .f32⟩
  | 27 => ⟨S2x8x256, .f32⟩
  | 28 => ⟨S2x8x256, .f32⟩
  | 29 => ⟨S2x8x256, .f32⟩
  | 30 => ⟨S_, .f32⟩
  | 31 => ⟨S2x8x256, .f32⟩
  | 32 => ⟨S2x8x256, .f32⟩
  | 33 => ⟨S_, .f32⟩
  | 34 => ⟨S2x8x256, .f32⟩
  | 35 => ⟨S2x8x256, .f32⟩
  | 36 => ⟨S2x8x256, .f32⟩
  | 37 => ⟨S2x8x256, .f32⟩
  | 38 => ⟨S1x2x8x256, .f32⟩
  | 39 => ⟨S_, .i32⟩
  | 40 => ⟨S_, .i32⟩
  | 41 => ⟨S_, .i32⟩
  | 42 => ⟨S4096x2x8x256, .f32⟩
  | 43 => ⟨S_, .i32⟩
  | 44 => ⟨S_, .i32⟩
  | 45 => ⟨S2x4096x8x256, .f32⟩
  | 46 => ⟨S2x4096x2048, .f32⟩
  | 47 => ⟨S1024x2048, .f32⟩
  | 48 => ⟨S2x4096x2048, .f32⟩
  | 49 => ⟨S2x4096x2048, .f32⟩
  | 50 => ⟨S2x4096x2048, .f32⟩
  | 51 => ⟨S_, .f32⟩
  | 52 => ⟨S2x4096, .f32⟩
  | 53 => ⟨S2x4096x1, .f32⟩
  | 54 => ⟨S_, .f32⟩
  | 55 => ⟨S2x4096x1, .f32⟩
  | 56 => ⟨S2x4096x1, .f32⟩
  | 57 => ⟨S_, .f32⟩
  | 58 => ⟨S2x4096x1, .f32⟩
  | 59 => ⟨S2x4096x1, .f32⟩
  | 60 => ⟨S2x4096x1, .f32⟩
  | 61 => ⟨S2x4096x2048, .f32⟩
  | 62 => ⟨S2x4096x2048, .f32⟩
  | 63 => ⟨S1x1x2048, .f32⟩
  | 64 => ⟨S2x4096x2048, .f32⟩
  | 65 => ⟨S2x4096x2048, .f32⟩
  | 66 => ⟨S2048x1024, .f32⟩
  | 67 => ⟨S2x4096x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call1_cst : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_v47 : Ref sig .tc := ⟨.hbm, 74, rfl⟩
abbrev main_cst_0 : Ref sig .tc := ⟨.hbm, 75, rfl⟩
abbrev main_cst_1 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_2 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_3 : Ref sig .tc := ⟨.hbm, 94, rfl⟩
abbrev main_v59 : Ref sig .tc := ⟨.hbm, 95, rfl⟩
abbrev main_c_4 : Ref sig .tc := ⟨.hbm, 96, rfl⟩
abbrev main_v60_0 : Ref sig .tc := ⟨.hbm, 97, rfl⟩
abbrev main_v60_1 : Ref sig .tc := ⟨.hbm, 98, rfl⟩
abbrev main_v60_2 : Ref sig .tc := ⟨.hbm, 99, rfl⟩
abbrev main_v60_3 : Ref sig .tc := ⟨.hbm, 100, rfl⟩
abbrev main_v60_4 : Ref sig .tc := ⟨.hbm, 101, rfl⟩
abbrev main_v60_5 : Ref sig .tc := ⟨.hbm, 102, rfl⟩
abbrev main_v60_6 : Ref sig .tc := ⟨.hbm, 103, rfl⟩
abbrev main_v60_7 : Ref sig .tc := ⟨.hbm, 104, rfl⟩
abbrev main_v60_8 : Ref sig .tc := ⟨.hbm, 105, rfl⟩
abbrev main_v60_9 : Ref sig .tc := ⟨.hbm, 106, rfl⟩
abbrev main_while0c_c_17 : Ref sig .tc := ⟨.hbm, 107, rfl⟩
abbrev main_while0c_v81 : Ref sig .tc := ⟨.hbm, 108, rfl⟩
abbrev main_while0b_call3_c : Ref sig .tc := ⟨.hbm, 109, rfl⟩
abbrev main_while0b_call3_c_0 : Ref sig .tc := ⟨.hbm, 110, rfl⟩
abbrev main_while0b_call3_c_1 : Ref sig .tc := ⟨.hbm, 111, rfl⟩
abbrev main_while0b_call3_v0 : Ref sig .tc := ⟨.hbm, 112, rfl⟩
abbrev main_while0b_v81 : Ref sig .tc := ⟨.hbm, 113, rfl⟩
abbrev main_while0b_call4_c : Ref sig .tc := ⟨.hbm, 114, rfl⟩
abbrev main_while0b_call4_c_0 : Ref sig .tc := ⟨.hbm, 115, rfl⟩
abbrev main_while0b_call4_c_1 : Ref sig .tc := ⟨.hbm, 116, rfl⟩
abbrev main_while0b_call4_v0 : Ref sig .tc := ⟨.hbm, 117, rfl⟩
abbrev main_while0b_v82 : Ref sig .tc := ⟨.hbm, 118, rfl⟩
abbrev main_while0b_call5_c : Ref sig .tc := ⟨.hbm, 119, rfl⟩
abbrev main_while0b_call5_c_0 : Ref sig .tc := ⟨.hbm, 120, rfl⟩
abbrev main_while0b_call5_v0 : Ref sig .tc := ⟨.hbm, 121, rfl⟩
abbrev main_while0b_v83 : Ref sig .tc := ⟨.hbm, 122, rfl⟩
abbrev main_while0b_call6_c : Ref sig .tc := ⟨.hbm, 123, rfl⟩
abbrev main_while0b_call6_c_0 : Ref sig .tc := ⟨.hbm, 124, rfl⟩
abbrev main_while0b_call6_c_1 : Ref sig .tc := ⟨.hbm, 125, rfl⟩
abbrev main_while0b_call6_v0 : Ref sig .tc := ⟨.hbm, 126, rfl⟩
abbrev main_while0b_v84 : Ref sig .tc := ⟨.hbm, 127, rfl⟩
abbrev main_while0b_call7_c : Ref sig .tc := ⟨.hbm, 128, rfl⟩
abbrev main_while0b_call7_c_0 : Ref sig .tc := ⟨.hbm, 129, rfl⟩
abbrev main_while0b_call7_c_1 : Ref sig .tc := ⟨.hbm, 130, rfl⟩
abbrev main_while0b_call7_v0 : Ref sig .tc := ⟨.hbm, 131, rfl⟩
abbrev main_while0b_v85 : Ref sig .tc := ⟨.hbm, 132, rfl⟩
abbrev main_while0b_v86 : Ref sig .tc := ⟨.hbm, 133, rfl⟩
abbrev main_while0b_v87 : Ref sig .tc := ⟨.hbm, 134, rfl⟩
abbrev main_while0b_v88 : Ref sig .tc := ⟨.hbm, 135, rfl⟩
abbrev main_while0b_v89 : Ref sig .tc := ⟨.hbm, 136, rfl⟩
abbrev main_while0b_v90 : Ref sig .tc := ⟨.hbm, 137, rfl⟩
abbrev main_while0b_v91 : Ref sig .tc := ⟨.hbm, 138, rfl⟩
abbrev main_while0b_v92 : Ref sig .tc := ⟨.hbm, 139, rfl⟩
abbrev main_while0b_v93 : Ref sig .tc := ⟨.hbm, 140, rfl⟩
abbrev main_while0b_v94 : Ref sig .tc := ⟨.hbm, 141, rfl⟩
abbrev main_while0b_v95 : Ref sig .tc := ⟨.hbm, 142, rfl⟩
abbrev main_while0b_v96 : Ref sig .tc := ⟨.hbm, 143, rfl⟩
abbrev main_while0b_v97 : Ref sig .tc := ⟨.hbm, 144, rfl⟩
abbrev main_while0b_v98 : Ref sig .tc := ⟨.hbm, 145, rfl⟩
abbrev main_while0b_v99 : Ref sig .tc := ⟨.hbm, 146, rfl⟩
abbrev main_while0b_v100 : Ref sig .tc := ⟨.hbm, 147, rfl⟩
abbrev main_while0b_v101 : Ref sig .tc := ⟨.hbm, 148, rfl⟩
abbrev main_while0b_v102 : Ref sig .tc := ⟨.hbm, 149, rfl⟩
abbrev main_while0b_v103 : Ref sig .tc := ⟨.hbm, 150, rfl⟩
abbrev main_while0b_v104 : Ref sig .tc := ⟨.hbm, 151, rfl⟩
abbrev main_while0b_v105 : Ref sig .tc := ⟨.hbm, 152, rfl⟩
abbrev main_while0b_v106 : Ref sig .tc := ⟨.hbm, 153, rfl⟩
abbrev main_while0b_v107 : Ref sig .tc := ⟨.hbm, 154, rfl⟩
abbrev main_while0b_v108 : Ref sig .tc := ⟨.hbm, 155, rfl⟩
abbrev main_while0b_call8_v0 : Ref sig .tc := ⟨.hbm, 156, rfl⟩
abbrev main_while0b_call8_v1 : Ref sig .tc := ⟨.hbm, 157, rfl⟩
abbrev main_while0b_call8_cst : Ref sig .tc := ⟨.hbm, 158, rfl⟩
abbrev main_while0b_call8_v2 : Ref sig .tc := ⟨.hbm, 159, rfl⟩
abbrev main_while0b_call8_v3 : Ref sig .tc := ⟨.hbm, 160, rfl⟩
abbrev main_while0b_call8_cst_0 : Ref sig .tc := ⟨.hbm, 161, rfl⟩
abbrev main_while0b_call8_v4 : Ref sig .tc := ⟨.hbm, 162, rfl⟩
abbrev main_while0b_call8_v5 : Ref sig .tc := ⟨.hbm, 163, rfl⟩
abbrev main_while0b_v109 : Ref sig .tc := ⟨.hbm, 164, rfl⟩
abbrev main_while0b_v110 : Ref sig .tc := ⟨.hbm, 165, rfl⟩
abbrev main_while0b_call9_v0 : Ref sig .tc := ⟨.hbm, 166, rfl⟩
abbrev main_while0b_call9_c : Ref sig .tc := ⟨.hbm, 167, rfl⟩
abbrev main_while0b_call9_c_0 : Ref sig .tc := ⟨.hbm, 168, rfl⟩
abbrev main_while0b_call9_c_1 : Ref sig .tc := ⟨.hbm, 169, rfl⟩
abbrev main_while0b_v111 : Ref sig .tc := ⟨.hbm, 170, rfl⟩
abbrev main_while0b_c_17 : Ref sig .tc := ⟨.hbm, 171, rfl⟩
abbrev main_while0b_v112 : Ref sig .tc := ⟨.hbm, 172, rfl⟩
abbrev main_v61 : Ref sig .tc := ⟨.hbm, 173, rfl⟩
abbrev main_v62 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_v66 : Ref sig .tc := ⟨.hbm, 178, rfl⟩
abbrev main_cst_5 : Ref sig .tc := ⟨.hbm, 179, rfl⟩
abbrev main_v67 : Ref sig .tc := ⟨.hbm, 180, rfl⟩
abbrev main_v68 : Ref sig .tc := ⟨.hbm, 181, rfl⟩
abbrev main_cst_6 : Ref sig .tc := ⟨.hbm, 182, rfl⟩
abbrev main_v69 : Ref sig .tc := ⟨.hbm, 183, rfl⟩
abbrev main_v70 : Ref sig .tc := ⟨.hbm, 184, rfl⟩
abbrev main_cst_7 : Ref sig .tc := ⟨.hbm, 185, rfl⟩
abbrev main_v71 : Ref sig .tc := ⟨.hbm, 186, rfl⟩
abbrev main_v72 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_v76 : Ref sig .tc := ⟨.hbm, 191, rfl⟩
abbrev main_v77 : Ref sig .tc := ⟨.hbm, 192, rfl⟩
abbrev main_v78 : Ref sig .tc := ⟨.hbm, 193, rfl⟩
abbrev main_v79 : Ref sig .tc := ⟨.hbm, 194, rfl⟩
abbrev main_v80 : Ref sig .tc := ⟨.hbm, 195, rfl⟩

abbrev nD : Nat := 1
abbrev τ : Topo := Topo.v7x

variable {F : FTy → Type} [FloatOps F]

abbrev main_while0_count : Scf.Loop 32 := ⟨0#32, 4096#32, 1#32⟩
-- ==== Proof.Same.lean ====
module

public import proofs.«01_k».proof.Proof.Gen.Kernel
public import proofs.«01_k».proof.Proof.Gen.KernelIdeal

@[expose] public section
set_option maxRecDepth 65536
set_option maxHeartbeats 4000000
noncomputable section

/-! The two printings of the kernel are one text: each call's body, the body table, and @main. -/

namespace Cert.Same
open Idealize.ShloMosaic Idealize.SL.Sem
variable {F : FTy → Type} [FloatOps F]

theorem body0 : (Cert.Kernel.cc0__inproj_kernel (F := F)) = (Cert.KernelIdeal.cc0__inproj_kernel (F := F)) := rfl
theorem body1 : (Cert.Kernel.cc1__ssd_kernel (F := F)) = (Cert.KernelIdeal.cc1__ssd_kernel (F := F)) := rfl
theorem body2 : (Cert.Kernel.cc2__out_kernel (F := F)) = (Cert.KernelIdeal.cc2__out_kernel (F := F)) := rfl

theorem defs₀_eq : (Cert.Kernel.defs₀ (F := F)) = Cert.KernelIdeal.defs₀ := by
  unfold Cert.Kernel.defs₀ Cert.KernelIdeal.defs₀
  refine congrArg Defs.onTc ?_
  funext l a
  match l, a with
  | 0, (t, s) => exact congrFun (congrFun (congrFun (congrFun (congrFun (congrFun (congrFun (congrFun (congrFun (congrFun (congrFun (congrFun (congrFun (congrFun (congrFun (congrFun (congrFun (congrFun (congrFun (congrFun (congrFun body0 _) _) _) _) _) _) _) _) _) _) _) _) _) _) _) _) _) _) _) _) _
  | 1, (t, s) => rfl
  | 2, (t, s) => rfl

theorem defs_eq : (Cert.Kernel.defs (F := F)) = Cert.KernelIdeal.defs := by
  unfold Cert.Kernel.defs Cert.KernelIdeal.defs
  rw [defs₀_eq]
  rfl

theorem main_eq : (Cert.Kernel.main (F := F)) = Cert.KernelIdeal.main := rfl
end Cert.Same
-- ==== Proof.Reg0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! Region 0, the in-projection: what its body leaves, at any entry contents. -/

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 0 of @main: custom_call 0, `cc0__inproj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S512x1024 := Rect.unit (s := S512x1024) ![0, 0] S512x1024.size inb_S512x1024_S512x1024_0_0
abbrev r0_1 : Rect S2048x1024 := Rect.unit (s := S2048x1024) ![0, 0] S2048x1024.size inb_S2048x1024_S2048x1024_0_0
abbrev r0_2 : Rect S512x2048 := Rect.unit (s := S512x2048) ![0, 0] S512x2048.size inb_S512x2048_S512x2048_0_0
abbrev r0_3 : Rect S8x1024 := Rect.unit (s := S8x1024) ![0, 0] S8x1024.size inb_S8x1024_S8x1024_0_0
abbrev r0_4 : Rect S1x8 := Rect.unit (s := S1x8) ![0, 0] S1x8.size inb_S1x8_S1x8_0_0
abbrev r0_5 : Rect S512x8 := Rect.unit (s := S512x8) ![0, 0] S512x8.size inb_S512x8_S512x8_0_0
abbrev r0_6 : Rect S256x1024 := Rect.unit (s := S256x1024) ![0, 0] S256x1024.size inb_S256x1024_S256x1024_0_0
abbrev r0_7 : Rect S512x256 := Rect.unit (s := S512x256) ![0, 0] S512x256.size inb_S512x256_S512x256_0_0

/-! ## What the body leaves in each output window's buffer -/

/-- Window 6's staging buffer after the body, from the input windows' blocks: its 1 store as pieces, LAST
    FIRST (Lib/Pipeline/FrameBody.lean `View.canon`; the payloads are the skeleton's). -/
def out0_6 (x0 : Vec F S512x1024 .f32) (x1 : Vec F S2048x1024 .f32) (x2 : Vec F S2048x1024 .f32) (x3 : Vec F S8x1024 .f32) (x4 : Vec F S256x1024 .f32) (x5 : Vec F S1x8 .f32) : Vec F S512x2048 .bf16 :=
  View.canon [⟨r0_2, k0_pay4 (View.ld x0 r0_0) (View.ld x1 r0_1)⟩]

/-- Its stores tile the buffer (checked by evaluation), so they cover it. -/
theorem cover0_6 (p0 : Vec F S512x2048 .bf16) (y : S512x2048.Idx) :
    ∃ pc ∈ ([⟨r0_2, p0⟩] : List (View.Piece (Elt F) S512x2048 .bf16)), y ∈ pc.1.set :=
  View.cover_of_tiled [⟨r0_2, p0⟩] S512x2048.size (by rfl) y

/-- Window 7's staging buffer after the body, from the input windows' blocks: its 1 store as pieces, LAST
    FIRST (Lib/Pipeline/FrameBody.lean `View.canon`; the payloads are the skeleton's). -/
def out0_7 (x0 : Vec F S512x1024 .f32) (x1 : Vec F S2048x1024 .f32) (x2 : Vec F S2048x1024 .f32) (x3 : Vec F S8x1024 .f32) (x4 : Vec F S256x1024 .f32) (x5 : Vec F S1x8 .f32) : Vec F S512x2048 .bf16 :=
  View.canon [⟨r0_2, k0_pay5 (View.ld x0 r0_0) (View.ld x2 r0_1)⟩]

/-- Its stores tile the buffer (checked by evaluation), so they cover it. -/
theorem cover0_7 (p0 : Vec F S512x2048 .bf16) (y : S512x2048.Idx) :
    ∃ pc ∈ ([⟨r0_2, p0⟩] : List (View.Piece (Elt F) S512x2048 .bf16)), y ∈ pc.1.set :=
  View.cover_of_tiled [⟨r0_2, p0⟩] S512x2048.size (by rfl) y

/-- Window 8's staging buffer after the body, from the input windows' blocks: its 1 store as pieces, LAST
    FIRST (Lib/Pipeline/FrameBody.lean `View.canon`; the payloads are the skeleton's). -/
def out0_8 (x0 : Vec F S512x1024 .f32) (x1 : Vec F S2048x1024 .f32) (x2 : Vec F S2048x1024 .f32) (x3 : Vec F S8x1024 .f32) (x4 : Vec F S256x1024 .f32) (x5 : Vec F S1x8 .f32) : Vec F S512x8 .f32 :=
  View.canon [⟨r0_5, k0_pay1 (k0_pay6 (View.ld x0 r0_0) (View.ld x3 r0_3) (View.ld x5 r0_4)) k0_pay7⟩]

/-- Its stores tile the buffer (checked by evaluation), so they cover it. -/
theorem cover0_8 (p0 : Vec F S512x8 .f32) (y : S512x8.Idx) :
    ∃ pc ∈ ([⟨r0_5, p0⟩] : List (View.Piece (Elt F) S512x8 .f32)), y ∈ pc.1.set :=
  View.cover_of_tiled [⟨r0_5, p0⟩] S512x8.size (by rfl) y

/-- Window 9's staging buffer after the body, from the input windows' blocks: its 1 store as pieces, LAST
    FIRST (Lib/Pipeline/FrameBody.lean `View.canon`; the payloads are the skeleton's). -/
def out0_9 (x0 : Vec F S512x1024 .f32) (x1 : Vec F S2048x1024 .f32) (x2 : Vec F S2048x1024 .f32) (x3 : Vec F S8x1024 .f32) (x4 : Vec F S256x1024 .f32) (x5 : Vec F S1x8 .f32) : Vec F S512x256 .f32 :=
  View.canon [⟨r0_7, k0_pay2 (k0_pay3 (View.ld x0 r0_0)) (View.ld x4 r0_6)⟩]

/-- Its stores tile the buffer (checked by evaluation), so they cover it. -/
theorem cover0_9 (p0 : Vec F S512x256 .f32) (y : S512x256.Idx) :
    ∃ pc ∈ ([⟨r0_7, p0⟩] : List (View.Piece (Elt F) S512x256 .f32)), y ∈ pc.1.set :=
  View.cover_of_tiled [⟨r0_7, p0⟩] S512x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S512x1024 .f32) (harg1 : arg1.IsWhole) (arg2 : Memref sig .tc .vmem S2048x1024 .f32) (harg2 : arg2.IsWhole) (arg3 : Memref sig .tc .vmem S2048x1024 .f32) (harg3 : arg3.IsWhole) (arg4 : Memref sig .tc .vmem S8x1024 .f32) (harg4 : arg4.IsWhole) (arg5 : Memref sig .tc .vmem S256x1024 .f32) (harg5 : arg5.IsWhole) (arg6 : Memref sig .tc .vmem S1x8 .f32) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S512x8 .f32) (harg9 : arg9.IsWhole) (arg10 : Memref sig .tc .vmem S512x256 .f32) (harg10 : arg10.IsWhole)
    (x0 : Vec F S512x1024 .f32) (x1 : Vec F S2048x1024 .f32) (x2 : Vec F S2048x1024 .f32) (x3 : Vec F S8x1024 .f32) (x4 : Vec F S256x1024 .f32) (x5 : Vec F S1x8 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5) ∗ owns (c : Thread nD τ) arg9 fullShare (out0_8 x0 x1 x2 x3 x4 x5) ∗ owns (c : Thread nD τ) arg10 fullShare (out0_9 x0 x1 x2 x3 x4 x5)) -∗ K ⟨⟩))
      ⊢ wp frame (wpE (defs₀ (F := F)) Variants.none c none) E (cc0__inproj_kernel i arg1 harg1 arg2 harg2 arg3 harg3 arg4 harg4 arg5 harg5 arg6 harg6 arg7 harg7 arg8 harg8 arg9 harg9 arg10 harg10) K := by
  simp only [cc0__inproj_kernel_eq_skeleton]; unfold cc0__inproj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KI
-- ==== Proof.Reg1Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! Region 1, the scan: what the two runs of its body share. -/

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 4) — by arithmetic of the point. -/
theorem hcond1_0 : ∀ t : Fin cfg1.N, cond1_0 (grid1.coords t) ↔ t.val % 4 = 0 :=
  (fun t => by
    have ht : t.val < 64 := Nat.lt_of_lt_of_eq t.isLt N_1
    have e0 : (grid1.coords t 0).val = t.val / 4 % 16 := Pipeline.Grid.coords_val t 0 (by decide) rfl
    have e1 : (grid1.coords t 1).val = t.val / 1 % 4 := Pipeline.Grid.coords_val t 1 (by decide) rfl
    simp only [cond1_0, e0, e1]
    word_cmp
   : ∀ t : Fin grid1.N, cond1_0 (grid1.coords t) ↔ t.val % 4 = 0)

/-! ## The kernel body on any staging memrefs: a subtype the run finds -/

/-- One staging buffer of output window 11, through which its contents are stated (`View.read_writes_of_cover`: the
    choice does not matter). -/
abbrev VO1_11 : View sig .tc .vmem S1x1024x256 .bf16 := (Memref.whole cc1_stg11_0 : Memref sig .tc .vmem S1x1024x256 .bf16).view
/-- Each window's current staging memref at point `t`, spelled as the pipeline passes it (`bodyAt1`), and its wholeness. -/
abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x8 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x16x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1024x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1x16 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x16x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x4x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1x256 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x1x256 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S2x384x128 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S1x1024x256 .bf16 := win1_11.stage (cfg1.slots t 11)
abbrev hs1_11 (t : Fin cfg1.N) : (ms1_11 t).IsWhole := hstage1_11 ((cfg1.slots t 11).cast nbuf1_11)
/-- The scratch operands: whole scoped buffers of the kernel's own, passed beside the windows. -/
abbrev scM1_0 : Memref sig .tc .vmem S16x256 .f32 := Memref.whole cc1_scratch0
abbrev scM1_1 : Memref sig .tc .vmem S128x256 .f32 := Memref.whole cc1_scratch1
/-- The scratch `arg14` the kernel carries between points, as a view: what it holds is stated through it. -/
abbrev VS1_0 : View sig .tc .vmem S16x256 .f32 := scM1_0.view
/-- The scratch `arg15` the kernel carries between points, as a view: what it holds is stated through it. -/
abbrev VS1_1 : View sig .tc .vmem S128x256 .f32 := scM1_1.view

/-- What the body never touches: the other calls' scoped buffers and the generator register. -/
def rest1 (c : Dev nD) : sProp 𝕄 :=
  iprop(Pipeline.scopedRestBut (Ix := Unit) (Name := ℕ) (U := UR sig nD τ) (Lvl := ℕ) (Val := Elt F) spec1 c [cc1_scratch0, cc1_scratch1] ∗ (∃ r, prngReg c r))

/-- The region's invariant with the two scratch operands as memrefs owned at some contents. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d)) ∗ rest1 c) := by
  unfold Pipeline.ΦA rest1; rw [scopedRest1_split]; simp only [scM1_0, scM1_1, owns_whole]
  exact Idealize.SL.BI.sep_assoc.antisymm Idealize.SL.BI.sep_assoc'

end Cert.KI
-- ==== Proof.Reg1RunA.lean ====
module

public import proofs.«01_k».proof.Proof.Reg1Runs

@[expose] public section

set_option maxRecDepth 16384

noncomputable section

/-! Region 1, the scan: the body's run where the grid's second coordinate is 0. -/

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken: points 0, 4, … 60: 16 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) :
    Σ' (L11 : List (View.Piece (Elt F) S1x1024x256 .bf16)), Σ' (LS0 : List (View.Piece (Elt F) S16x256 .f32)), { LS1 : List (View.Piece (Elt F) S128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc1__ssd_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc1__ssd_kernel_eq_skeleton]; unfold cc1__ssd_kernel_skel
    simp only [k1_part37_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]; · iexists _; iexact HS0
    iexists _; iexact HS1

end Cert.KI
-- ==== Proof.Reg1RunB.lean ====
module

public import proofs.«01_k».proof.Proof.Reg1RunA

@[expose] public section

set_option maxRecDepth 16384

noncomputable section

/-! Region 1, the scan: the body's run where the grid's second coordinate is not 0. -/

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken: points 1, 2, … 63: 48 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : ¬cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (xs0 : Vec F S16x256 .f32) (xs1 : Vec F S128x256 .f32) :
    Σ' (L11 : List (View.Piece (Elt F) S1x1024x256 .bf16)), Σ' (LS0 : List (View.Piece (Elt F) S16x256 .f32)), { LS1 : List (View.Piece (Elt F) S128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare xs0 ∗ owns (c : Thread nD τ) arg15 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1)) -∗ K ⟨⟩))
          ⊢ wp frame (wpE (defs₀ (F := F)) Variants.none c none) E (cc1__ssd_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc1__ssd_kernel_eq_skeleton]; unfold cc1__ssd_kernel_skel
    simp only [k1_part37_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg14.eq_unread hfs0; obtain rfl := harg15.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]; · iexists _; iexact H11
    isplitl [HS0]; · iexists _; iexact HS0
    iexists _; iexact HS1

end Cert.KI
-- ==== Proof.Reg1.lean ====
module

public import proofs.«01_k».proof.Proof.Reg1RunB

@[expose] public section

set_option maxRecDepth 16384

noncomputable section

/-! Region 1, the scan: what its body leaves at each point, at any entry contents. -/

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- Case A's pieces for output 11 tile its block (8 stores of `S1x128x256`, checked by the kernel's evaluation: Lib/Ring.lean `Piece.tiledL`, linear in the pieces, through a loop's `@[irreducible]` trip theorem too), so they cover it. -/
theorem cover1_A_11 (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (y : S1x1024x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1 S1x128x256.size (by sl_kernel_rfl) y

/-- What case A leaves in output 11's staging buffer: its pieces read back over junk. -/
def out1_A_11 (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) : Vec F S1x1024x256 .bf16 :=
  VO1_11.read (Elt F) (VO1_11.writes (Elt F) VO1_11.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1)

/-- Case A's pieces for scratch `arg14`, which the kernel carries between points, cover it: 9 pieces of `S16x256` tiling it (Lib/Ring.lean `Piece.tiledL`). -/
theorem scover1_A_0 (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (y : S16x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1 S16x256.size (by sl_kernel_rfl) y

/-- What case A leaves in scratch `arg14`: its pieces read back over junk. -/
def sout1_A_0 (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) : Vec F S16x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.1)

/-- Case A's pieces for scratch `arg15`, which the kernel carries between points, cover it: 2 pieces of `S128x256` tiling it (Lib/Ring.lean `Piece.tiledL`). -/
theorem scover1_A_1 (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (y : S128x256.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.2.1 S128x256.size (by sl_kernel_rfl) y

/-- What case A leaves in scratch `arg15`: its pieces read back over junk. -/
def sout1_A_1 (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) : Vec F S128x256 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).2.2.1)

/-- Case B's pieces for output 11 tile its block (8 stores of `S1x128x256`, checked by the kernel's evaluation: Lib/Ring.lean `Piece.tiledL`, linear in the pieces, through a loop's `@[irreducible]` trip theorem too), so they cover it. -/
theorem cover1_B_11 (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : ¬cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (xs0 : Vec F S16x256 .f32) (xs1 : Vec F S128x256 .f32) (y : S1x1024x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).1 S1x128x256.size (by sl_kernel_rfl) y

/-- What case B leaves in output 11's staging buffer: its pieces read back over junk. -/
def out1_B_11 (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : ¬cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (xs0 : Vec F S16x256 .f32) (xs1 : Vec F S128x256 .f32) : Vec F S1x1024x256 .bf16 :=
  VO1_11.read (Elt F) (VO1_11.writes (Elt F) VO1_11.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).1)

/-- Case B's pieces for scratch `arg14`, which the kernel carries between points, cover it: 8 pieces of `S16x256` tiling it (Lib/Ring.lean `Piece.tiledL`). -/
theorem scover1_B_0 (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : ¬cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (xs0 : Vec F S16x256 .f32) (xs1 : Vec F S128x256 .f32) (y : S16x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).2.1 S16x256.size (by sl_kernel_rfl) y

/-- What case B leaves in scratch `arg14`: its pieces read back over junk. -/
def sout1_B_0 (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : ¬cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (xs0 : Vec F S16x256 .f32) (xs1 : Vec F S128x256 .f32) : Vec F S16x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).2.1)

/-- Case B's pieces for scratch `arg15`, which the kernel carries between points, cover it: 1 piece of `S128x256` tiling it (Lib/Ring.lean `Piece.tiledL`). -/
theorem scover1_B_1 (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : ¬cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (xs0 : Vec F S16x256 .f32) (xs1 : Vec F S128x256 .f32) (y : S128x256.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).2.2.1 S128x256.size (by sl_kernel_rfl) y

/-- What case B leaves in scratch `arg15`: its pieces read back over junk. -/
def sout1_B_1 (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : ¬cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (xs0 : Vec F S16x256 .f32) (xs1 : Vec F S128x256 .f32) : Vec F S128x256 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1x1024x256 .bf16 × Vec F S16x256 .f32 × Vec F S128x256 .f32
  | 0, hn => (out1_A_11 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩))
  | n + 1, hn =>
    if h0 : (n + 1) % 4 = 0 then
      (out1_A_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩))
    else
      (out1_B_11 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (outsAt1 c n (Nat.lt_of_succ_lt hn)).2.1 (outsAt1 c n (Nat.lt_of_succ_lt hn)).2.2)

/-- `outsAt1` at a point of case A: that case's contents. -/
theorem outsAt1_A (c : Dev nD) (t : Fin cfg1.N) (h0 : t.val % 4 = 0) :
    outsAt1 V c t.val t.isLt = (out1_A_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 4 = 0) :
    outsAt1 V c t.val t.isLt = (out1_B_11 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) scM1_0 (Memref.isWhole_whole _) scM1_1 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.1) ∗ owns (c : Thread nD τ) scM1_1 fullShare ((outsAt1 V c n hn).2.2)) ∗ rest1 c)

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((outsAt1 V c n hn).2.1) ∗ owns (c : Thread nD τ) scM1_1 fullShare ((outsAt1 V c n hn).2.2)) ∗ rest1 c) := rfl

/-- Before a point that is not the first: the carried scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.1) ∗ owns (c : Thread nD τ) scM1_1 fullShare ((outsAt1 V c (n - 1) (by omega)).2.2)) ∗ rest1 c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => (outsAt1 V c t.val t.isLt).1
  Φ t := PhiS1 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t))

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl,
    after1_0, after1_1, after1_2, after1_3, after1_4, after1_5, after1_6, after1_7, after1_8, after1_9, after1_10, after1_11]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases hz : t.val = 0
    · rw [PhiS1_castSucc V c t, PhiS1_zero V c _ _ hz, PhiA1_eq]
      rw [outsAt1_A V c t h0]
      unfold out1_A_11 sout1_A_0 sout1_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_A c (grid1.coords t) _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover1_A_11 c _ _ _ _ _ _ _ _ _ _ _ _ _ _ _ _ _ _ _ _ _ _ _ _ _ _ _ _ _ _ _ _ _ _ _ _ _ _ _ _ _)
    · rw [PhiS1_castSucc V c t, PhiS1_pos V c _ _ hz]
      rw [outsAt1_A V c t h0]
      unfold out1_A_11 sout1_A_0 sout1_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_A c (grid1.coords t) _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexists _; iexact HS0
      isplitl [HS1]; · iexists _; iexact HS1
      iintro ⟨H0, H1, H2, H3, H4, H5, H6, H7, H8, H9, H10, ⟨%e11, H11⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover1_A_11 c _ _ _ _ _ _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg1.N = 64 from N_1); omega
    · rw [PhiS1_castSucc V c t, PhiS1_pos V c _ _ hz]
      rw [outsAt1_B V c t h0]
      unfold out1_B_11 sout1_B_0 sout1_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun1_B c (grid1.coords t) _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [HS0]; · iexact HS0
      isplitl [HS1]; · iexact HS1
      iintro ⟨H0, H1, H2, H3, H4, H5, H6, H7, H8, H9, H10, ⟨%e11, H11⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      unfold owns; iexists _; isplitr
      swap; · iexact H11
      ipureintro; exact View.read_writes_of_cover _ _ _ _ _ (cover1_B_11 c _ _ _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1⟩, Hg⟩
  isplitl [HS0 HS1]
  · isplitl [HS0]
    · iexists _; iexact HS0
    iexists _; iexact HS1
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Cert.KI
-- ==== Proof.Reg2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! Region 2, the out-projection: what its body leaves, at any entry contents. -/

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 2 of @main: custom_call 2, `cc2__out_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S512x1024 := Rect.unit (s := S512x1024) ![0, 0] S512x1024.size inb_S512x1024_S512x1024_0_0
abbrev r2_1 : Rect S2048x1024 := Rect.unit (s := S2048x1024) ![0, 0] S2048x1024.size inb_S2048x1024_S2048x1024_0_0
abbrev r2_2 : Rect S512x2048 := Rect.unit (s := S512x2048) ![0, 0] S512x2048.size inb_S512x2048_S512x2048_0_0
abbrev r2_3 : Rect S1x2048 := Rect.unit (s := S1x2048) ![0, 0] S1x2048.size inb_S1x2048_S1x2048_0_0
abbrev r2_4 : Rect S1024x2048 := Rect.unit (s := S1024x2048) ![0, 0] S1024x2048.size inb_S1024x2048_S1024x2048_0_0

/-! ## What the body leaves in each output window's buffer -/

/-- Window 5's staging buffer after the body, from the input windows' blocks: its 1 store as pieces, LAST
    FIRST (Lib/Pipeline/FrameBody.lean `View.canon`; the payloads are the skeleton's). -/
def out2_5 (x0 : Vec F S512x2048 .bf16) (x1 : Vec F S512x1024 .f32) (x2 : Vec F S2048x1024 .f32) (x3 : Vec F S1024x2048 .f32) (x4 : Vec F S1x2048 .f32) : Vec F S512x1024 .f32 :=
  View.canon [⟨r2_0, k2_pay1 (View.ld x1 r2_0) (View.ld x2 r2_1) (View.ld x0 r2_2) (View.ld x4 r2_3) (View.ld x3 r2_4)⟩]

/-- Its stores tile the buffer (checked by evaluation), so they cover it. -/
theorem cover2_5 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S512x2048 .bf16) (harg1 : arg1.IsWhole) (arg2 : Memref sig .tc .vmem S512x1024 .f32) (harg2 : arg2.IsWhole) (arg3 : Memref sig .tc .vmem S2048x1024 .f32) (harg3 : arg3.IsWhole) (arg4 : Memref sig .tc .vmem S1024x2048 .f32) (harg4 : arg4.IsWhole) (arg5 : Memref sig .tc .vmem S1x2048 .f32) (harg5 : arg5.IsWhole) (arg6 : Memref sig .tc .vmem S512x1024 .f32) (harg6 : arg6.IsWhole)
    (x0 : Vec F S512x2048 .bf16) (x1 : Vec F S512x1024 .f32) (x2 : Vec F S2048x1024 .f32) (x3 : Vec F S1024x2048 .f32) (x4 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__out_kernel i arg1 harg1 arg2 harg2 arg3 harg3 arg4 harg4 arg5 harg5 arg6 harg6) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 1 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KI
-- ==== Proof.Run.lean ====
module

public import proofs.«01_k».proof.Proof.Reg0
public import proofs.«01_k».proof.Proof.Reg1
public import proofs.«01_k».proof.Proof.Reg2
public import proofs.«01_k».proof.Proof.Gen.KernelIdeal.Regions

@[expose] public section

set_option maxRecDepth 16384

noncomputable section

/-! The run of the whole kernel: four host stretches and three regions, from the launch to the return. -/

namespace Cert.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10]

/-- No host stretch writes an argument. -/
theorem hostOps_args : ∀ a ∈ argRefs, a ∉ hostOps0_W ∧ a ∉ hostOps1_W ∧ a ∉ hostOps2_W ∧ a ∉ hostOps3_W :=
  ListAll.forall_mem_of_all_decide (by decide +kernel)

/-! ## The buffers at each boundary -/

/-- At launch. -/
abbrev W0 : Dev nD → Valuation τ sig (Elt F) := fun c b => (s₀ m ρ).mem ((c : Dev nD), b)
/-- Region 0's entry: after host stretch 0. -/
abbrev W1 : Dev nD → Valuation τ sig (Elt F) := fun c => StableHlo.after hostOps0 (W0 m ρ c)
/-- The same at the TensorCore's references. -/
abbrev V1 : (c : Dev nD) → (b : Ref sig .tc) → Buf (Elt F) ((c : Thread nD τ).loc b) := fun c b => W1 m ρ c b
/-- Region 0's exit: its arrays at what the pipeline leaves, the rest as entered. -/
def W2 (c : Dev nD) : Valuation τ sig (Elt F) :=
  Pipeline.withArrays spec0 c (W1 m ρ c) fun w => (dat0 (V1 m ρ) c).arrAt w cfg0.N
/-- The same at the TensorCore's references. -/
abbrev V2 : (c : Dev nD) → (b : Ref sig .tc) → Buf (Elt F) ((c : Thread nD τ).loc b) := fun c b => W2 m ρ c b
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- What is no output array of region 0 keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h

/-- Region 1's entry: after host stretch 1. -/
abbrev W3 : Dev nD → Valuation τ sig (Elt F) := fun c => StableHlo.after hostOps1 (W2 m ρ c)
/-- The same at the TensorCore's references. -/
abbrev V3 : (c : Dev nD) → (b : Ref sig .tc) → Buf (Elt F) ((c : Thread nD τ).loc b) := fun c b => W3 m ρ c b
/-- Region 1's exit: its arrays at what the pipeline leaves, the rest as entered. -/
def W4 (c : Dev nD) : Valuation τ sig (Elt F) :=
  Pipeline.withArrays spec1 c (W3 m ρ c) fun w => (dat1 (V3 m ρ) c).arrAt w cfg1.N
/-- The same at the TensorCore's references. -/
abbrev V4 : (c : Dev nD) → (b : Ref sig .tc) → Buf (Elt F) ((c : Thread nD τ).loc b) := fun c b => W4 m ρ c b
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- What is no output array of region 1 keeps its contents across it. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- Region 2's entry: after host stretch 2. -/
abbrev W5 : Dev nD → Valuation τ sig (Elt F) := fun c => StableHlo.after hostOps2 (W4 m ρ c)
/-- The same at the TensorCore's references. -/
abbrev V5 : (c : Dev nD) → (b : Ref sig .tc) → Buf (Elt F) ((c : Thread nD τ).loc b) := fun c b => W5 m ρ c b
/-- Region 2's exit: its arrays at what the pipeline leaves, the rest as entered. -/
def W6 (c : Dev nD) : Valuation τ sig (Elt F) :=
  Pipeline.withArrays spec2 c (W5 m ρ c) fun w => (dat2 (V5 m ρ) c).arrAt w cfg2.N
/-- The same at the TensorCore's references. -/
abbrev V6 : (c : Dev nD) → (b : Ref sig .tc) → Buf (Elt F) ((c : Thread nD τ).loc b) := fun c b => W6 m ρ c b
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- What is no output array of region 2 keeps its contents across it. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

/-- At the return: after the last host stretch. -/
abbrev W7 : Dev nD → Valuation τ sig (Elt F) := fun c => StableHlo.after hostOps3 (W6 m ρ c)
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
/-- The arguments end as launched. -/
theorem W7_args (c : Dev nD) : ∀ a ∈ argRefs, W7 m ρ c (Proc.devRef .tc a) = m ((c : Thread nD τ).loc a) := fun a ha =>
  have h := hostOps_args a ha
  (W7_of m ρ c a h.2.2.2).trans <| (W6_of m ρ c a (argsIn2 a ha)).trans <| (W5_of m ρ c a h.2.2.1).trans <|
    (W4_of m ρ c a (argsIn1 a ha)).trans <| (W3_of m ρ c a h.2.1).trans <| (W2_of m ρ c a (argsIn0 a ha)).trans <|
    (W1_of m ρ c a h.1).trans rfl
/-- The arguments at region 1's and 2's entry, as launched. -/
theorem W2_args (c : Dev nD) : ∀ a ∈ argRefs, W2 m ρ c (Proc.devRef .tc a) = m ((c : Thread nD τ).loc a) := fun a ha =>
  (W2_of m ρ c a (argsIn0 a ha)).trans <| (W1_of m ρ c a (hostOps_args a ha).1).trans rfl
theorem W4_args (c : Dev nD) : ∀ a ∈ argRefs, W4 m ρ c (Proc.devRef .tc a) = m ((c : Thread nD τ).loc a) := fun a ha =>
  (W4_of m ρ c a (argsIn1 a ha)).trans <| (W3_of m ρ c a (hostOps_args a ha).2.1).trans <| W2_args m ρ c a ha

/-! ## The proof data and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last contents, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: its arrays split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (fun w => (W2_arr m ρ c w).symm) (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers and put back at the exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c); unfold Pipeline.ΦA
    iintro ⟨Hp, -, Hr⟩
    isplitl [Hr]; · iexact Hr
    iexact Hp
  hout c := by
    refine BIBase.Entails.trans (hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (fun w => (W4_arr m ρ c w).symm) (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers and put back at the exit contents. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (fun w => (W6_arr m ρ c w).symm) (fun b hb => W6_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- @main's segments in order. -/
abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ),
    .host (hseg hostOps2 hostOps2_sub hostOps2_fresh (W4 m ρ)), .region (reg2 m ρ),
    .host (hseg hostOps3 hostOps3_sub hostOps3_fresh (W6 m ρ)) ]
/-- @main is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The kernel's run: it ends with every unscoped buffer at the last contents and every semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W7 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨h, funext fun g => hz g (.inr (no_unscoped g.2))⟩)

/-- The frame: the arguments end unchanged, the semaphores at zero. -/
theorem frame : θ_run defs (onTc (τ := τ) (main (F := F))) ⟨m, fun _ => 0, ρ⟩ (fun r =>
      (∀ c : Dev nD, ∀ a ∈ argRefs, r.2.mem ((c.tc : Thread nD τ).loc a) = m ((c.tc : Thread nD τ).loc a)) ∧ r.2.sem = fun _ => 0) :=
  (θ_run defs _ _).mono (fun r h => ⟨fun c a ha => (h.1 c _ (mem_uc a (by
    revert a; exact ListAll.forall_mem_of_all_decide (by decide +kernel)))).trans (W7_args m ρ c a ha), h.2⟩) (run m ρ)

end Cert.KI
-- ==== Proof.RefRun.lean ====
module

public import proofs.«01_k».proof.Proof.Gen.ReferenceIdeal.Run
public import proofs.«01_k».proof.Proof.Gen.ReferenceIdeal.Step

@[expose] public section

noncomputable section

/-! The reference's run: its results are those of the step iterated 4096 times from the initial state. -/

namespace Cert.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state `s` before trip `j`. -/
structure Holds : Prop where
  f_8 : V0 (Proc.devRef .tc main_v60_8) = s.main_v60_8
  f_9 : V0 (Proc.devRef .tc main_v60_9) = s.main_v60_9
  f_0 : V0 (Proc.devRef .tc main_v60_0) = s.main_v60_0
  f_1 : V0 (Proc.devRef .tc main_v60_1) = s.main_v60_1
  f_2 : V0 (Proc.devRef .tc main_v60_2) = s.main_v60_2
  f_3 : V0 (Proc.devRef .tc main_v60_3) = s.main_v60_3
  f_4 : V0 (Proc.devRef .tc main_v60_4) = s.main_v60_4
  f_5 : V0 (Proc.devRef .tc main_v60_5) = s.main_v60_5
  f_6 : V0 (Proc.devRef .tc main_v60_6) = s.main_v60_6
  n_7 : V0 (Proc.devRef .tc main_v60_7) = constantI S_ 32 (BitVec.ofNat 32 j)

variable {V0 s j}

set_option maxRecDepth 8192 in
theorem step_8 (h : Holds V0 s j) : step_main_v60_8 V0 = (step j s).main_v60_8 := by
  rw [Cert.ReferenceIdeal.Step.step_main_v60_8]
  simp only [step_main_v60_8, res_main_while0b_v103, res_main_while0b_v81, res_main_while0b_v83, h.f_8, h.f_0, h.f_1, h.f_2, h.f_3, h.f_4, h.f_5, h.f_6, h.n_7]
  rfl
set_option maxRecDepth 8192 in
theorem step_9 (h : Holds V0 s j) : step_main_v60_9 V0 = (step j s).main_v60_9 := by
  rw [Cert.ReferenceIdeal.Step.step_main_v60_9]
  simp only [step_main_v60_9, res_main_while0b_v103, res_main_while0b_v81, res_main_while0b_v82, res_main_while0b_v83, h.f_8, h.f_9, h.f_0, h.f_1, h.f_2, h.f_3, h.f_4, h.f_5, h.f_6, h.n_7]
  rfl
theorem step_7 (h : Holds V0 s j) : step_main_v60_7 V0 = constantI S_ 32 (BitVec.ofNat 32 (j + 1)) := by
  unfold step_main_v60_7
  rw [h.n_7]
  funext i
  show BitVec.ofNat 32 j + 1#32 = BitVec.ofNat 32 (j + 1)
  simp only [BitVec.ofNat_add]

set_option maxRecDepth 8192 in
theorem out_main_v80_holds (h : Holds V0 s j) {x_main_arg0 : (⟨S2x4096x1024, .f32⟩ : BufTy).Contents (Elt F)} (h_main_arg0 : V0 (Proc.devRef .tc main_arg0) = x_main_arg0) {x_main_arg8 : (⟨S2048, .f32⟩ : BufTy).Contents (Elt F)} (h_main_arg8 : V0 (Proc.devRef .tc main_arg8) = x_main_arg8) {x_main_arg9 : (⟨S1024x2048, .f32⟩ : BufTy).Contents (Elt F)} (h_main_arg9 : V0 (Proc.devRef .tc main_arg9) = x_main_arg9) {x_main_arg10 : (⟨S2048x1024, .f32⟩ : BufTy).Contents (Elt F)} (h_main_arg10 : V0 (Proc.devRef .tc main_arg10) = x_main_arg10) : out_main_v80 V0 = Cert.ReferenceIdeal.Step.R_main_v80 s x_main_arg0 x_main_arg8 x_main_arg9 x_main_arg10 := by
  unfold out_main_v80 Cert.ReferenceIdeal.Step.R_main_v80
  rw [h.f_9, h_main_arg0, h_main_arg8, h_main_arg9, h_main_arg10]
  try rfl

/-- One trip keeps the valuation holding: `step` of the state, the same set-up values, the next number. -/
theorem holds_step (h : Holds V0 s j) : Holds (STEP V0) (step j s) (j + 1) where
  f_8 := (STEP_main_v60_8 V0).trans (step_8 h)
  f_9 := (STEP_main_v60_9 V0).trans (step_9 h)
  n_7 := (STEP_main_v60_7 V0).trans (step_7 h)
  f_0 := (STEP_main_v60_0 V0).trans h.f_0
  f_1 := (STEP_main_v60_1 V0).trans h.f_1
  f_2 := (STEP_main_v60_2 V0).trans h.f_2
  f_3 := (STEP_main_v60_3 V0).trans h.f_3
  f_4 := (STEP_main_v60_4 V0).trans h.f_4
  f_5 := (STEP_main_v60_5 V0).trans h.f_5
  f_6 := (STEP_main_v60_6 V0).trans h.f_6

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v80) = Cert.ReferenceIdeal.Step.R_main_v80 (it c 4096) (m ((c.tc : Thread nD τ).loc main_arg0)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 4096
    ⟨(h c).1.trans (out_main_v80_holds hk (iter_main_arg0 m c 4096) (iter_main_arg8 m c 4096) (iter_main_arg9 m c 4096) (iter_main_arg10 m c 4096)), (h c).2.1, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.RefRun

end
-- ==== Proof.Frames.lean ====
module

public import proofs.«01_k».proof.Defs
public import proofs.«01_k».proof.Proof.Same
public import proofs.«01_k».proof.Proof.Run
public import proofs.«01_k».proof.Proof.RefRun
public import proofs.«01_k».proof.Proof.Gen.ReferenceIdeal
public import Idealize.ShloMosaic.Lib.Quiescent

@[expose] public section
set_option maxRecDepth 65536
noncomputable section

/-! The frames of the three programs, and the side conditions of the precondition. -/

namespace Cert.Frames
open Idealize.ShloMosaic Idealize.ShloMosaic.TcCoe Idealize.SL.Sem

theorem preFacts : Cert.Pre_model_weights.Facts := by
  constructor <;> decide

/-- The frame at any float values, argument by argument. -/
theorem frame {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0) :=
  (θ_run _ _ _).mono (fun r h => ⟨fun c => ⟨h.1 c _ (by simp), h.1 c _ (by simp), h.1 c _ (by simp), h.1 c _ (by simp),
    h.1 c _ (by simp), h.1 c _ (by simp), h.1 c _ (by simp), h.1 c _ (by simp), h.1 c _ (by simp), h.1 c _ (by simp), h.1 c _ (by simp)⟩, h.2⟩)
    (Cert.KI.frame m g)

theorem kernelIdeal : Cert.quiescent_KernelIdeal (hKernelIdeal := Cert.KernelIdeal.Gen.facts) := fun m g _ => frame m g

set_option maxHeartbeats 4000000 in
/-- The kernel's printing: its definitions and @main are the idealized text's. -/
theorem kernel : Cert.quiescent_Kernel (hKernel := Cert.Kernel.Gen.facts) := fun m g _ => by
  have h := frame (F := Bits) m g
  rw [← Cert.Same.defs_eq, ← Cert.Same.main_eq] at h
  exact h

theorem reference : Cert.quiescent_ReferenceIdeal (hReferenceIdeal := Cert.ReferenceIdeal.Gen.facts) := fun m g _ =>
  (θ_run _ _ _).mono (fun r h => ⟨fun c => (h c).2, sem_eq_zero_of_no_sems (by decide) _⟩) (Cert.ReferenceIdeal.Value.run m g)

end Cert.Frames
-- ==== Proof.Chunk.lean ====
module

public import proofs.«01_k».proof.Proof.Reg1
public import Idealize.ShloMosaic.Lib.Pipeline.ValueKit
public import Idealize.ShloMosaic.Lib.Pipeline.ReadBack

@[expose] public section

set_option maxRecDepth 65536

noncomputable section

/-! Region 1, the scan: its body as eight steps of one chunk function. -/

namespace Cert.KI

open Cert.KernelIdeal Cert.KernelIdeal.Gen
open Idealize.ShloMosaic Idealize.ShloMosaic.TcCoe

variable {F : FTy → Type} [FloatOps F]

/-- What one grid point reads: its blocks of the eleven inputs, and the head's number. -/
structure Ins (F : FTy → Type) where
  h : BitVec 32
  x0 : Vec F S1x1024x256 .bf16
  x1 : Vec F S1x1024x256 .bf16
  x2 : Vec F S1x1024x8 .f32
  x3 : Vec F S1x1x16x1024 .f32
  x4 : Vec F S1x1x1024x16 .f32
  x5 : Vec F S1x1x16 .f32
  x6 : Vec F S1x16x1 .f32
  x7 : Vec F S1x4x256 .f32
  x8 : Vec F S1x1x256 .f32
  x9 : Vec F S1x1x256 .f32
  x10 : Vec F S2x384x128 .f32

theorem inbU (k : ℕ) : ∀ a, (![0, 128 * (k % 8), 0] : Fin 3 → ℕ) a + S1x128x256.size a ≤ S1x1024x256.size a := by
  have := Nat.mod_lt k (show 8 > 0 by decide)
  intro a; fin_cases a <;> simp [S1x128x256, S1x1024x256] <;> omega

theorem inbD (k : ℕ) : ∀ a, (![0, 128 * (k % 8), 0] : Fin 3 → ℕ) a + S1x128x8.size a ≤ S1x1024x8.size a := by
  have := Nat.mod_lt k (show 8 > 0 by decide)
  intro a; fin_cases a <;> simp [S1x128x8, S1x1024x8] <;> omega

theorem inbB (k : ℕ) : ∀ a, (![0, 0, 0, 128 * (k % 8)] : Fin 4 → ℕ) a + S1x1x16x128.size a ≤ S1x1x16x1024.size a := by
  have := Nat.mod_lt k (show 8 > 0 by decide)
  intro a; fin_cases a <;> simp [S1x1x16x128, S1x1x16x1024] <;> omega

theorem inbC (k : ℕ) : ∀ a, (![0, 0, 128 * (k % 8), 0] : Fin 4 → ℕ) a + S1x1x128x16.size a ≤ S1x1x1024x16.size a := by
  have := Nat.mod_lt k (show 8 > 0 by decide)
  intro a; fin_cases a <;> simp [S1x1x128x16, S1x1x1024x16] <;> omega

/-- Chunk `k`'s rows of `u` before the convolution. -/
def blkU (I : Ins F) (k : ℕ) : Vec F S1x128x256 .bf16 := View.ld I.x0 (Rect.unit ![0, 128 * (k % 8), 0] S1x128x256.size (inbU k))
/-- Chunk `k`'s rows of `z`. -/
def blkZ (I : Ins F) (k : ℕ) : Vec F S1x128x256 .bf16 := View.ld I.x1 (Rect.unit ![0, 128 * (k % 8), 0] S1x128x256.size (inbU k))
/-- Chunk `k`'s rows of `dt`. -/
def blkD (I : Ins F) (k : ℕ) : Vec F S1x128x8 .f32 := View.ld I.x2 (Rect.unit ![0, 128 * (k % 8), 0] S1x128x8.size (inbD k))
/-- Chunk `k`'s columns of `B` transposed. -/
def blkB (I : Ins F) (k : ℕ) : Vec F S1x1x16x128 .f32 := View.ld I.x3 (Rect.unit ![0, 0, 0, 128 * (k % 8)] S1x1x16x128.size (inbB k))
/-- Chunk `k`'s rows of `C`. -/
def blkC (I : Ins F) (k : ℕ) : Vec F S1x1x128x16 .f32 := View.ld I.x4 (Rect.unit ![0, 0, 128 * (k % 8), 0] S1x1x128x16.size (inbC k))

/-- The rows before chunk `k`'s: the carried ones, or the chunk before. -/
def prevU (I : Ins F) (P : FVec F S128x256 .f32) : ℕ → FVec F S128x256 .f32
  | 0 => P
  | k + 1 => k1_pay10 (blkU I k)

/-- Chunk `k`'s rows after the convolution, over the rows before. -/
def uC (I : Ins F) (P : FVec F S128x256 .f32) (k : ℕ) : FVec F S128x256 .f32 :=
  k1_pay12 (k1_pay4 I.x7) (k1_pay10 (blkU I k)) (k1_pay11 I.x7 (blkU I k) I.x8) (prevU I P k)
    (View.ld I.x10 (Rect.unit ![0, 0, 0] S1x384x128.size inb_S2x384x128_S1x384x128_0_0_0))
    (View.ld I.x10 (Rect.unit ![1, 0, 0] S1x384x128.size inb_S2x384x128_S1x384x128_1_0_0))

/-- The head's steps `dt` of chunk `k`. -/
def dtC (I : Ins F) (k : ℕ) : FVec F S128x1 .f32 := k1_pay13 I.h (blkD I k)
/-- Their running sums, as a column. -/
def csC (I : Ins F) (k : ℕ) : FVec F S128x1 .f32 := k1_pay14 I.h k1_pay8 (blkD I k)
/-- Their running sums, as a row. -/
def csrC (I : Ins F) (k : ℕ) : FVec F S1x128 .f32 := k1_pay15 I.h k1_pay9 (blkD I k)
/-- Their sum. -/
def totC (I : Ins F) (k : ℕ) : FVec F S1x1 .f32 := k1_pay16 I.h k1_pay8 (blkD I k)

/-- The state after chunk `k`, from the state before and the convolved rows. -/
def stC (I : Ins F) (k : ℕ) (u : FVec F S128x256 .f32) (S : FVec F S16x256 .f32) : FVec F S16x256 .f32 :=
  k1_pay28 (k1_pay6 I.x6) u (dtC I k) (totC I k) (k1_pay17 (blkB I k)) (k1_pay20 (k1_pay6 I.x6) (csrC I k) (totC I k)) S

/-- Chunk `k`'s rows of the output, from the state before and the convolved rows. -/
def yC (I : Ins F) (k : ℕ) (u : FVec F S128x256 .f32) (S : FVec F S16x256 .f32) : FVec F S1x128x256 .bf16 :=
  k1_pay30 (k1_pay29 k1_pay7 u (dtC I k) (k1_pay17 (blkB I k)) (k1_pay18 (blkC I k))
    (k1_pay21 (csC I k) (k1_pay18 (blkC I k)) (k1_pay19 (k1_pay5 I.x5)) S)
    (k1_pay22 (csC I k) (csrC I k))
    (k1_pay25 (k1_pay17 (blkB I k)) (k1_pay18 (blkC I k)) (k1_pay22 (csC I k) (csrC I k))
      (k1_pay23 (csC I k) (csrC I k) (k1_pay17 (blkB I k)) (k1_pay18 (blkC I k))) (k1_pay24 (k1_pay18 (blkC I k))))
    (k1_pay26 (k1_pay17 (blkB I k)) (k1_pay18 (blkC I k))) I.x9 (blkZ I k))

/-- The state before chunk `k`. -/
def stN (I : Ins F) (S : FVec F S16x256 .f32) (P : FVec F S128x256 .f32) : ℕ → FVec F S16x256 .f32
  | 0 => S
  | k + 1 => stC I k (uC I P k) (stN I S P k)

/-- Chunk `k`'s rows of the output. -/
def yN (I : Ins F) (S : FVec F S16x256 .f32) (P : FVec F S128x256 .f32) (k : ℕ) : FVec F S1x128x256 .bf16 :=
  yC I k (uC I P k) (stN I S P k)

/-- The eight pieces of a point's output, last first. -/
def yPieces (I : Ins F) (S : FVec F S16x256 .f32) (P : FVec F S128x256 .f32) : List (View.Piece (Elt F) S1x1024x256 .bf16) :=
  [⟨Rect.unit ![0, 896, 0] S1x128x256.size inb_S1x1024x256_S1x128x256_0_896_0, yN I S P 7⟩,
    ⟨Rect.unit ![0, 768, 0] S1x128x256.size inb_S1x1024x256_S1x128x256_0_768_0, yN I S P 6⟩,
    ⟨Rect.unit ![0, 640, 0] S1x128x256.size inb_S1x1024x256_S1x128x256_0_640_0, yN I S P 5⟩,
    ⟨Rect.unit ![0, 512, 0] S1x128x256.size inb_S1x1024x256_S1x128x256_0_512_0, yN I S P 4⟩,
    ⟨Rect.unit ![0, 384, 0] S1x128x256.size inb_S1x1024x256_S1x128x256_0_384_0, yN I S P 3⟩,
    ⟨Rect.unit ![0, 256, 0] S1x128x256.size inb_S1x1024x256_S1x128x256_0_256_0, yN I S P 2⟩,
    ⟨Rect.unit ![0, 128, 0] S1x128x256.size inb_S1x1024x256_S1x128x256_0_128_0, yN I S P 1⟩,
    ⟨Rect.unit ![0, 0, 0] S1x128x256.size inb_S1x1024x256_S1x128x256_0_0_0, yN I S P 0⟩]

end Cert.KI
-- ==== Proof.ChunkA.lean ====
module

public import proofs.«01_k».proof.Proof.Chunk
public import Idealize.ShloMosaic.Lib.Pipeline.ValueKit
public import Idealize.ShloMosaic.Lib.Pipeline.ReadBack

@[expose] public section

set_option maxRecDepth 65536

noncomputable section

/-! Region 1, the scan: its body as eight steps of one chunk function. -/

namespace Cert.KI

open Cert.KernelIdeal Cert.KernelIdeal.Gen
open Idealize.ShloMosaic Idealize.ShloMosaic.TcCoe

variable {F : FTy → Type} [FloatOps F]

set_option maxHeartbeats 8000000 in
theorem out1_A_11_eq (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) :
    out1_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = View.canon (yPieces (⟨Scalar.remsi (BitVec.ofNat 32 (i 0)) 8#32, x0, x1, x2, x3, x4, x5, x6, x7, x8, x9, x10⟩ : Ins F) k1_pay2 k1_pay3) := by
  frame_open
  simp (disch := decide) only [↓ View.readCov_cons_unit_lit', View.readCov_unit_lit', View.read_writes_junk_eq_canon, View.canon_cons_unit_lit', View.readAt_eq_ld, Memref.IsWhole.read_unread, View.ld_unit_lit']
  rfl

set_option maxHeartbeats 8000000 in
theorem sout1_A_0_eq (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) :
    sout1_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = stN (⟨Scalar.remsi (BitVec.ofNat 32 (i 0)) 8#32, x0, x1, x2, x3, x4, x5, x6, x7, x8, x9, x10⟩ : Ins F) k1_pay2 k1_pay3 8 := by
  frame_open
  simp (disch := decide) only [↓ View.readCov_cons_unit_lit', View.readCov_unit_lit', View.read_writes_junk_eq_canon, View.canon_cons_unit_lit', View.readAt_eq_ld, Memref.IsWhole.read_unread, View.ld_unit_lit']
  rfl

set_option maxHeartbeats 8000000 in
theorem sout1_A_1_eq (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) :
    sout1_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = k1_pay1 (blkU (⟨Scalar.remsi (BitVec.ofNat 32 (i 0)) 8#32, x0, x1, x2, x3, x4, x5, x6, x7, x8, x9, x10⟩ : Ins F) 7) := by
  frame_open
  simp (disch := decide) only [↓ View.readCov_cons_unit_lit', View.readCov_unit_lit', View.read_writes_junk_eq_canon, View.canon_cons_unit_lit', View.readAt_eq_ld, Memref.IsWhole.read_unread, View.ld_unit_lit']
  rfl

end Cert.KI
-- ==== Proof.ChunkB.lean ====
module

public import proofs.«01_k».proof.Proof.Chunk
public import Idealize.ShloMosaic.Lib.Pipeline.ValueKit
public import Idealize.ShloMosaic.Lib.Pipeline.ReadBack

@[expose] public section

set_option maxRecDepth 65536

noncomputable section

/-! Region 1, the scan: its body as eight steps of one chunk function. -/

namespace Cert.KI

open Cert.KernelIdeal Cert.KernelIdeal.Gen
open Idealize.ShloMosaic Idealize.ShloMosaic.TcCoe

variable {F : FTy → Type} [FloatOps F]

set_option maxHeartbeats 8000000 in
theorem out1_B_11_eq (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : ¬cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (xs0 : Vec F S16x256 .f32) (xs1 : Vec F S128x256 .f32) :
    out1_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 = View.canon (yPieces (⟨Scalar.remsi (BitVec.ofNat 32 (i 0)) 8#32, x0, x1, x2, x3, x4, x5, x6, x7, x8, x9, x10⟩ : Ins F) xs0 xs1) := by
  frame_open
  simp (disch := decide) only [↓ View.readCov_cons_unit_lit', View.readCov_unit_lit', View.read_writes_junk_eq_canon, View.canon_cons_unit_lit', View.readAt_eq_ld, Memref.IsWhole.read_unread, View.ld_unit_lit']
  rfl

set_option maxHeartbeats 8000000 in
theorem sout1_B_0_eq (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : ¬cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (xs0 : Vec F S16x256 .f32) (xs1 : Vec F S128x256 .f32) :
    sout1_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 = stN (⟨Scalar.remsi (BitVec.ofNat 32 (i 0)) 8#32, x0, x1, x2, x3, x4, x5, x6, x7, x8, x9, x10⟩ : Ins F) xs0 xs1 8 := by
  frame_open
  simp (disch := decide) only [↓ View.readCov_cons_unit_lit', View.readCov_unit_lit', View.read_writes_junk_eq_canon, View.canon_cons_unit_lit', View.readAt_eq_ld, Memref.IsWhole.read_unread, View.ld_unit_lit']
  rfl

set_option maxHeartbeats 8000000 in
theorem sout1_B_1_eq (c : Dev nD) (i : grid1.Coords) (arg2 : Memref sig .tc .vmem S1x1024x256 .bf16) (harg2 : arg2.IsWhole) (arg3 : Memref sig .tc .vmem S1x1024x256 .bf16) (harg3 : arg3.IsWhole) (arg4 : Memref sig .tc .vmem S1x1024x8 .f32) (harg4 : arg4.IsWhole) (arg5 : Memref sig .tc .vmem S1x1x16x1024 .f32) (harg5 : arg5.IsWhole) (arg6 : Memref sig .tc .vmem S1x1x1024x16 .f32) (harg6 : arg6.IsWhole) (arg7 : Memref sig .tc .vmem S1x1x16 .f32) (harg7 : arg7.IsWhole) (arg8 : Memref sig .tc .vmem S1x16x1 .f32) (harg8 : arg8.IsWhole) (arg9 : Memref sig .tc .vmem S1x4x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S2x384x128 .f32) (harg12 : arg12.IsWhole) (arg13 : Memref sig .tc .vmem S1x1024x256 .bf16) (harg13 : arg13.IsWhole) (arg14 : Memref sig .tc .vmem S16x256 .f32) (harg14 : arg14.IsWhole) (arg15 : Memref sig .tc .vmem S128x256 .f32) (harg15 : arg15.IsWhole) (hc0 : ¬cond1_0 i)
    (x0 : Vec F S1x1024x256 .bf16) (x1 : Vec F S1x1024x256 .bf16) (x2 : Vec F S1x1024x8 .f32) (x3 : Vec F S1x1x16x1024 .f32) (x4 : Vec F S1x1x1024x16 .f32) (x5 : Vec F S1x1x16 .f32) (x6 : Vec F S1x16x1 .f32) (x7 : Vec F S1x4x256 .f32) (x8 : Vec F S1x1x256 .f32) (x9 : Vec F S1x1x256 .f32) (x10 : Vec F S2x384x128 .f32) (xs0 : Vec F S16x256 .f32) (xs1 : Vec F S128x256 .f32) :
    sout1_B_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 = k1_pay1 (blkU (⟨Scalar.remsi (BitVec.ofNat 32 (i 0)) 8#32, x0, x1, x2, x3, x4, x5, x6, x7, x8, x9, x10⟩ : Ins F) 7) := by
  frame_open
  simp (disch := decide) only [↓ View.readCov_cons_unit_lit', View.readCov_unit_lit', View.read_writes_junk_eq_canon, View.canon_cons_unit_lit', View.readAt_eq_ld, Memref.IsWhole.read_unread, View.ld_unit_lit']
  rfl

end Cert.KI
-- ==== Proof.RealScan.lean ====
module

public import Mathlib.Analysis.SpecialFunctions.Exp
public import Mathlib.Algebra.BigOperators.Intervals

@[expose] public section

/-! The recurrence over the reals: its closed form over a chunk, and what the chunk's one product form computes. -/

namespace Cert.RealScan

open Finset

/-- One chunk of a linear recurrence: the state after `r` steps is the first state decayed, plus each input decayed from its step on. -/
theorem closed (a : ℝ) (d v h : ℕ → ℝ) (hs : ∀ t, h (t + 1) = h t * Real.exp (d t * a) + v t) (T r : ℕ) :
    h (T + r) = h T * Real.exp (a * ∑ s ∈ range r, d (T + s))
      + ∑ s ∈ range r, Real.exp (a * (∑ i ∈ range r, d (T + i) - ∑ i ∈ range (s + 1), d (T + i))) * v (T + s) := by
  induction r with
  | zero => simp
  | succ r ih =>
    have e : T + (r + 1) = T + r + 1 := rfl
    rw [e, hs, ih, sum_range_succ (fun s => d (T + s)) r, sum_range_succ _ r]
    have h1 : ∀ s, Real.exp (a * (∑ i ∈ range r, d (T + i) + d (T + r) - ∑ i ∈ range (s + 1), d (T + i)))
        = Real.exp (a * (∑ i ∈ range r, d (T + i) - ∑ i ∈ range (s + 1), d (T + i))) * Real.exp (d (T + r) * a) := by
      intro s; rw [← Real.exp_add]; congr 1; ring
    have h2 : Real.exp (a * (∑ i ∈ range r, d (T + i) + d (T + r) - ∑ i ∈ range (r + 1), d (T + i))) = 1 := by
      rw [sum_range_succ, sub_self, mul_zero, Real.exp_zero]
    rw [h2, mul_add, Real.exp_add, add_mul, sum_mul]
    have h3 : ∑ s ∈ range r, Real.exp (a * (∑ i ∈ range r, d (T + i) + d (T + r) - ∑ i ∈ range (s + 1), d (T + i))) * v (T + s)
        = ∑ s ∈ range r, Real.exp (a * (∑ i ∈ range r, d (T + i) - ∑ i ∈ range (s + 1), d (T + i))) * v (T + s) * Real.exp (d (T + r) * a) := by
      refine sum_congr rfl fun s _ => ?_
      rw [h1]; ring
    rw [h3, show a * d (T + r) = d (T + r) * a by ring]
    ring

/-- A sum over sixteen entries, entry by entry. -/
theorem sum16 (f : Fin 16 → ℝ) : ∑ n : Fin 16, f n = f 0 + f 1 + f 2 + f 3 + f 4 + f 5 + f 6 + f 7 + f 8 + f 9 + f 10
    + f 11 + f 12 + f 13 + f 14 + f 15 := by
  rw [Fin.sum_univ_castSucc, Fin.sum_univ_castSucc, Fin.sum_univ_castSucc, Fin.sum_univ_castSucc, Fin.sum_univ_castSucc,
    Fin.sum_univ_castSucc, Fin.sum_univ_castSucc, Fin.sum_univ_castSucc, Fin.sum_univ_eight]
  rfl

end Cert.RealScan
-- ==== Proof.ChunkVal.lean ====
module

public import proofs.«01_k».proof.Proof.Chunk
public import proofs.«01_k».proof.Proof.RealScan
public import Idealize.ShloMosaic.Lib.Pipeline.ValueKit
public import Idealize.ShloMosaic.PureOps.Ideal

@[expose] public section
set_option maxRecDepth 16384
noncomputable section

/-! Region 1 over the reals: eight chunks at a grid point are 1024 steps of the recurrence. -/

namespace Cert.KI
open Cert.KernelIdeal Cert.KernelIdeal.Gen
open Idealize.ShloMosaic Idealize.ShloMosaic.TcCoe

/-- What one head of one batch entry feeds the recurrence: reals, and two factors of the output that may be anything.
`raw` is the sequence before the convolution with three rows of zeros in front. -/
structure Row where
  raw : ℕ → Fin 256 → ℝ
  w : Fin 4 → Fin 256 → ℝ
  cb : Fin 256 → ℝ
  d : ℕ → ℝ
  dpos : ∀ t, 0 ≤ d t
  B : ℕ → Fin 16 → ℝ
  C : ℕ → Fin 16 → ℝ
  D : Fin 256 → EReal
  z : ℕ → Fin 256 → EReal

/-- The convolved sequence. -/
def Row.u (R : Row) (t : ℕ) (p : Fin 256) : ℝ :=
  R.cb p + R.w 3 p * R.raw (t + 3) p + R.w 2 p * R.raw (t + 2) p + R.w 1 p * R.raw (t + 1) p + R.w 0 p * R.raw t p

/-- The state before step `t`. -/
def Row.st (R : Row) (n : Fin 16) (p : Fin 256) : ℕ → ℝ
  | 0 => 0
  | t + 1 => R.st n p t * Real.exp (R.d t * (-((n.val : ℝ) + 1))) + R.d t * R.u t p * R.B t n

/-- The state read out at step `t`. -/
def Row.y (R : Row) (t : ℕ) (p : Fin 256) : ℝ := ∑ n : Fin 16, R.st n p (t + 1) * R.C t n

/-- The gated output at step `t`. -/
def Row.out (R : Row) (t : ℕ) (p : Fin 256) : EReal :=
  ((R.y t p : ℝ) + R.D p * (R.u t p : ℝ)) * (R.z t p * Ideal.logistic (R.z t p))

/-- A grid point's inputs are the row's from step `T` on. -/
structure Reads (R : Row) (I : Ins Ideal) (T : ℕ) (hd : Fin 8) : Prop where
  h : I.h = BitVec.ofNat 32 hd.val
  x0 : ∀ (r : Fin 1024) (p : Fin 256), I.x0 (ix3 0 r p) = (R.raw (T + r.val + 3) p : ℝ)
  x1 : ∀ (r : Fin 1024) (p : Fin 256), I.x1 (ix3 0 r p) = R.z (T + r.val) p
  x2 : ∀ (r : Fin 1024), I.x2 (ix3 0 r hd) = (R.d (T + r.val) : ℝ)
  x3 : ∀ (n : Fin 16) (r : Fin 1024), I.x3 (ix4 0 0 n r) = (R.B (T + r.val) n : ℝ)
  x4 : ∀ (r : Fin 1024) (n : Fin 16), I.x4 (ix4 0 0 r n) = (R.C (T + r.val) n : ℝ)
  x5 : ∀ (n : Fin 16), I.x5 (ix3 0 0 n) = ((-((n.val : ℝ) + 1) : ℝ) : EReal)
  x6 : ∀ (n : Fin 16), I.x6 (ix3 0 n 0) = ((-((n.val : ℝ) + 1) : ℝ) : EReal)
  x7 : ∀ (q : Fin 4) (p : Fin 256), I.x7 (ix3 0 q p) = (R.w q p : ℝ)
  x8 : ∀ (p : Fin 256), I.x8 (ix3 0 0 p) = (R.cb p : ℝ)
  x9 : ∀ (p : Fin 256), I.x9 (ix3 0 0 p) = R.D p
  s0 : ∀ (m : Fin 384) (s : Fin 128), I.x10 (ix3 0 m s) = if s.val + (m.val / 128 + 1) = m.val % 128 then 1 else 0
  s1 : ∀ (m : Fin 384) (s : Fin 128), I.x10 (ix3 1 m s) = if s.val + (m.val / 128 + 1) = m.val % 128 + 128 then 1 else 0

/-- A sum against the indicator of one place. -/
theorem pick (c : Fin 128 → Prop) [DecidablePred c] (f : Fin 128 → EReal) (s0 : Fin 128) (h : ∀ s, c s ↔ s = s0) :
    ∑ s, (if c s then (1 : EReal) else 0) * f s = f s0 := by
  simp only [h, ite_mul, one_mul, zero_mul, Finset.sum_ite_eq', Finset.mem_univ, if_true]

theorem pick_none (c : Fin 128 → Prop) [DecidablePred c] (f : Fin 128 → EReal) (h : ∀ s, ¬ c s) :
    ∑ s, (if c s then (1 : EReal) else 0) * f s = 0 := by
  simp only [h, if_false, zero_mul, Finset.sum_const_zero]

/-- One shifted copy of the rows, gathered from the chunk and from the rows before it. -/
theorem shifted (g : ℕ → EReal) (T q : ℕ) (hq : q = 1 ∨ q = 2 ∨ q = 3) (r : Fin 128) (f f' : Fin 128 → EReal)
    (hf : ∀ s : Fin 128, f s = g (T + s.val + 3)) (hf' : ∀ s : Fin 128, 125 ≤ s.val → f' s = g (T + s.val - 125)) :
    ∑ s : Fin 128, (if s.val + q = r.val then (1 : EReal) else 0) * f s
      + ∑ s : Fin 128, (if s.val + q = r.val + 128 then (1 : EReal) else 0) * f' s = g (T + r.val + 3 - q) := by
  have hr := r.isLt
  by_cases h : q ≤ r.val
  · rw [pick _ f ⟨r.val - q, by omega⟩ (fun s => by rw [Fin.ext_iff]; simp only; omega), pick_none _ f' (fun s => by omega), add_zero, hf]
    congr 1; simp only; omega
  · rw [pick_none _ f (fun s => by omega), pick _ f' ⟨r.val + 128 - q, by omega⟩ (fun s => by rw [Fin.ext_iff]; simp only; omega), zero_add,
      hf' _ (by simp only; omega)]
    congr 1; simp only; omega

theorem sel_sge (a b : Fin 128) (x y : EReal) :
    Scalar.select (IntOp.cmpi CmpIPredicate.sge (BitVec.ofNat 32 a.val) (BitVec.ofNat 32 b.val)) x y = if b.val ≤ a.val then x else y := by
  have ha := a.isLt; have hb := b.isLt
  have e : ∀ n : ℕ, n < 128 → (BitVec.ofNat 32 n).toInt = n := by
    intro n hn; rw [BitVec.toInt_eq_toNat_of_lt] <;> simp [BitVec.toNat_ofNat] <;> omega
  have : (IntOp.cmpi CmpIPredicate.sge (BitVec.ofNat 32 a.val) (BitVec.ofNat 32 b.val)) = if b.val ≤ a.val then 1#1 else 0#1 := by
    simp only [IntOp.cmpi, BitVec.sle, e _ ha, e _ hb]
    by_cases h : b.val ≤ a.val <;> simp [h]
  rw [this]
  by_cases h : b.val ≤ a.val <;> simp [h, Scalar.select]

theorem sel_sle (a b : Fin 128) (x y : EReal) :
    Scalar.select (IntOp.cmpi CmpIPredicate.sle (BitVec.ofNat 32 a.val) (BitVec.ofNat 32 b.val)) x y = if a.val ≤ b.val then x else y := by
  have ha := a.isLt; have hb := b.isLt
  have e : ∀ n : ℕ, n < 128 → (BitVec.ofNat 32 n).toInt = n := by
    intro n hn; rw [BitVec.toInt_eq_toNat_of_lt] <;> simp [BitVec.toNat_ofNat] <;> omega
  have : (IntOp.cmpi CmpIPredicate.sle (BitVec.ofNat 32 a.val) (BitVec.ofNat 32 b.val)) = if a.val ≤ b.val then 1#1 else 0#1 := by
    simp only [IntOp.cmpi, BitVec.sle, e _ ha, e _ hb]
    by_cases h : a.val ≤ b.val <;> simp [h]
  rw [this]
  by_cases h : a.val ≤ b.val <;> simp [h, Scalar.select]

theorem sel_eq (a b : Fin 8) (x y : EReal) :
    Scalar.select (IntOp.cmpi CmpIPredicate.eq (BitVec.ofNat 32 a.val) (BitVec.ofNat 32 b.val)) x y = if a = b then x else y := by
  revert a b; intro a b
  have : (IntOp.cmpi CmpIPredicate.eq (BitVec.ofNat 32 a.val) (BitVec.ofNat 32 b.val)) = if a = b then 1#1 else 0#1 := by
    revert a b; decide +kernel
  rw [this]
  by_cases h : a = b <;> simp [h, Scalar.select]

section
variable {R : Row} {I : Ins Ideal} {T : ℕ} {hd : Fin 8} (H : Reads R I T hd)
include H

theorem blkU_val (k : ℕ) (hk : k < 8) (r : Fin 128) (p : Fin 256) : blkU I k (ix3 0 r p) = (R.raw (T + 128 * k + r.val + 3) p : ℝ) := by
  unfold blkU; pointwise; rw [H.x0]; congr 2; simp only [Nat.mod_eq_of_lt hk]; omega
theorem blkZ_val (k : ℕ) (hk : k < 8) (r : Fin 128) (p : Fin 256) : blkZ I k (ix3 0 r p) = R.z (T + 128 * k + r.val) p := by
  unfold blkZ; pointwise; rw [H.x1]; congr 1; simp only [Nat.mod_eq_of_lt hk]; omega
theorem blkD_val (k : ℕ) (hk : k < 8) (r : Fin 128) : blkD I k (ix3 0 r hd) = (R.d (T + 128 * k + r.val) : ℝ) := by
  unfold blkD; pointwise; rw [H.x2]; congr 2; simp only [Nat.mod_eq_of_lt hk]; omega
theorem blkB_val (k : ℕ) (hk : k < 8) (n : Fin 16) (r : Fin 128) : blkB I k (ix4 0 0 n r) = (R.B (T + 128 * k + r.val) n : ℝ) := by
  unfold blkB; pointwise; rw [H.x3]; congr 2; simp only [Nat.mod_eq_of_lt hk]; omega
theorem blkC_val (k : ℕ) (hk : k < 8) (r : Fin 128) (n : Fin 16) : blkC I k (ix4 0 0 r n) = (R.C (T + 128 * k + r.val) n : ℝ) := by
  unfold blkC; pointwise; rw [H.x4]; congr 2; simp only [Nat.mod_eq_of_lt hk]; omega

theorem dtC_val (k : ℕ) (hk : k < 8) (r : Fin 128) : dtC I k (ix2 r 0) = (R.d (T + 128 * k + r.val) : ℝ) := by
  unfold dtC k1_pay13; pointwise
  simp only [H.h, sel_eq]
  rw [Finset.sum_ite_eq' Finset.univ hd, if_pos (Finset.mem_univ _), blkD_val H k hk]

omit H in
/-- A real sum, cast. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

omit H in
/-- A chunk's terms through place `r`. -/
theorem sum_le (f : ℕ → EReal) (r : Fin 128) : ∑ x : Fin 128, (if x.val ≤ r.val then f x.val else 0)
    = ∑ i ∈ Finset.range (r.val + 1), f i := by
  have hr := r.isLt
  rw [← Finset.sum_range (fun x => if x ≤ r.val then f x else 0), ← Finset.sum_filter]
  congr 1
  ext i; simp only [Finset.mem_filter, Finset.mem_range]; omega

omit H in
/-- The running sum of the steps from `T` on. -/
def Row.cs (R : Row) (T r : ℕ) : ℝ := ∑ i ∈ Finset.range r, R.d (T + i)

theorem csC_val (k : ℕ) (hk : k < 8) (r : Fin 128) : csC I k (ix2 r 0) = (R.cs (T + 128 * k) (r.val + 1) : ℝ) := by
  have hp := fun x => dtC_val H k hk x
  unfold dtC at hp
  unfold csC k1_pay14 k1_pay8 k1_pay7; pointwise
  simp only [sel_sge, hp]
  rw [sum_le (fun i => ((R.d (T + 128 * k + i) : ℝ) : EReal)) r, ← coe_sum']; rfl

theorem csrC_val (k : ℕ) (hk : k < 8) (r : Fin 128) : csrC I k (ix2 0 r) = (R.cs (T + 128 * k) (r.val + 1) : ℝ) := by
  have hp := fun x => dtC_val H k hk x
  unfold dtC at hp
  unfold csrC k1_pay15 k1_pay9; pointwise
  simp only [sel_sle, hp]
  rw [sum_le (fun i => ((R.d (T + 128 * k + i) : ℝ) : EReal)) r, ← coe_sum']; rfl

theorem totC_val (k : ℕ) (hk : k < 8) : totC I k (ix2 0 0) = (R.cs (T + 128 * k) 128 : ℝ) := by
  have : totC I k (ix2 0 0) = csC I k (ix2 127 0) := by
    unfold totC csC k1_pay16; pointwise
  rw [this, csC_val H k hk]; rfl

theorem uC_val (P : FVec Ideal S128x256 .f32) (hP : ∀ (s : Fin 128) p, 125 ≤ s.val → P (ix2 s p) = (R.raw (T + s.val - 125) p : ℝ))
    (k : ℕ) (hk : k < 8) (r : Fin 128) (p : Fin 256) : uC I P k (ix2 r p) = (R.u (T + 128 * k + r.val) p : ℝ) := by
  have hr := r.isLt
  have hprev : ∀ s : Fin 128, 125 ≤ s.val → prevU I P k (ix2 s p) = (R.raw (T + 128 * k + s.val - 125) p : ℝ) := by
    intro s hs
    cases k with
    | zero => exact hP s p hs
    | succ k =>
      show k1_pay10 (blkU I k) (ix2 s p) = _
      unfold k1_pay10; pointwise
      rw [blkU_val H k (by omega)]; congr 2; omega
  unfold uC k1_pay12 k1_pay11 k1_pay10 k1_pay4
  pointwise
  simp only [H.s0, H.s1, H.x7, H.x8, blkU_val H k hk]
  have e0 : (⟨0 + r.val, by omega⟩ : Fin 384).val = r.val := by simp
  have d0 : r.val / 128 + 1 = 1 := by omega
  have m0 : r.val % 128 = r.val := by omega
  have d1 : (128 + r.val) / 128 + 1 = 2 := by omega
  have m1 : (128 + r.val) % 128 = r.val := by omega
  have d2 : (256 + r.val) / 128 + 1 = 3 := by omega
  have m2 : (256 + r.val) % 128 = r.val := by omega
  simp only [d0, m0, d1, m1, d2, m2]
  have hs := fun q hq => shifted (fun t => ((R.raw t p : ℝ) : EReal)) (T + 128 * k) q hq r
    (fun s => ((R.raw (T + 128 * k + s.val + 3) p : ℝ) : EReal)) (fun s => prevU I P k (ix2 s p)) (fun _ => rfl) hprev
  rw [hs 1 (.inl rfl), hs 2 (.inr (.inl rfl)), hs 3 (.inr (.inr rfl))]
  simp only [← EReal.coe_mul, ← EReal.coe_add]
  unfold Row.u
  rfl

theorem stC_val (k : ℕ) (hk : k < 8) (u : FVec Ideal S128x256 .f32) (S : FVec Ideal S16x256 .f32)
    (hu : ∀ (r : Fin 128) p, u (ix2 r p) = (R.u (T + 128 * k + r.val) p : ℝ))
    (hS : ∀ n p, S (ix2 n p) = (R.st n p (T + 128 * k) : ℝ)) (n : Fin 16) (p : Fin 256) :
    stC I k u S (ix2 n p) = (R.st n p (T + 128 * (k + 1)) : ℝ) := by
  unfold stC k1_pay28 k1_pay27 k1_pay17 k1_pay6 k1_pay20
  pointwise
  simp only [H.x6, totC_val H k hk, csrC_val H k hk, blkB_val H k hk, dtC_val H k hk, hu, hS]
  simp only [← EReal.coe_mul, ← EReal.coe_add, ← EReal.coe_sub, Ideal.exp_coe, ← coe_sum']
  congr 1
  have hc := Cert.RealScan.closed (-((n.val : ℝ) + 1)) R.d (fun t => R.d t * R.u t p * R.B t n) (R.st n p) (fun _ => rfl) (T + 128 * k) 128
  rw [show T + 128 * (k + 1) = T + 128 * k + 128 by ring, hc]
  refine congrArg₂ (· + ·) rfl ?_
  refine Eq.trans ?_ (Finset.sum_range _).symm
  refine Finset.sum_congr rfl fun x _ => ?_
  unfold Row.cs
  ring

theorem yC_val (k : ℕ) (hk : k < 8) (u : FVec Ideal S128x256 .f32) (S : FVec Ideal S16x256 .f32)
    (hu : ∀ (r : Fin 128) p, u (ix2 r p) = (R.u (T + 128 * k + r.val) p : ℝ))
    (hS : ∀ n p, S (ix2 n p) = (R.st n p (T + 128 * k) : ℝ)) (r : Fin 128) (p : Fin 256) :
    yC I k u S (ix3 0 r p) = R.out (T + 128 * k + r.val) p := by
  unfold yC k1_pay30 k1_pay29 k1_pay26 k1_pay25 k1_pay24 k1_pay23 k1_pay22 k1_pay21 k1_pay27 k1_pay17 k1_pay18 k1_pay19 k1_pay5 k1_pay7
  pointwise
  simp only [H.x5, H.x9, csC_val H k hk, csrC_val H k hk, blkB_val H k hk, blkC_val H k hk, blkZ_val H k hk, dtC_val H k hk, hu, hS]
  unfold Row.out
  congr 2
  simp only [sel_sge]
  have hd : ∀ x : Fin 128, x.val ≤ r.val → 0 ≤ R.cs (T + 128 * k) (r.val + 1) - R.cs (T + 128 * k) (x.val + 1) := by
    intro x hx
    unfold Row.cs
    have e : ∑ i ∈ Finset.range (r.val + 1), R.d (T + 128 * k + i) = ∑ i ∈ Finset.range (x.val + 1), R.d (T + 128 * k + i)
        + ∑ i ∈ Finset.range (r.val - x.val), R.d (T + 128 * k + (x.val + 1 + i)) := by
      rw [show r.val + 1 = x.val + 1 + (r.val - x.val) by omega, Finset.sum_range_add]
    rw [e, add_sub_cancel_left]
    exact Finset.sum_nonneg fun i _ => R.dpos _
  have hm : ∀ x : Fin 128, x.val ≤ r.val → max ((R.cs (T + 128 * k) (r.val + 1) : EReal) - (R.cs (T + 128 * k) (x.val + 1) : EReal)) 0
      = ((R.cs (T + 128 * k) (r.val + 1) - R.cs (T + 128 * k) (x.val + 1) : ℝ) : EReal) := by
    intro x hx
    rw [← EReal.coe_sub, max_eq_left]
    exact_mod_cast hd x hx
  have h0 : (0 : EReal) = ((0 : ℝ) : EReal) := rfl
  have hite : ∀ (x : Fin 128) (f g : EReal), (x.val ≤ r.val → f = g) → (if x.val ≤ r.val then f else 0) = if x.val ≤ r.val then g else 0 := by
    intro x f g h; split
    · exact h ‹_›
    · rfl
  rw [Finset.sum_congr rfl fun (x : Fin 128) _ => hite x _ (((∑ n : Fin 16, R.C (T + 128 * k + r.val) n * R.B (T + 128 * k + x.val) n
      * Real.exp (-((n.val : ℝ) + 1) * (R.cs (T + 128 * k) (r.val + 1) - R.cs (T + 128 * k) (x.val + 1)))) *
      (R.d (T + 128 * k + x.val) * R.u (T + 128 * k + x.val) p) : ℝ) : EReal) ?_]
  · rw [sum_le (fun i => (((∑ n : Fin 16, R.C (T + 128 * k + r.val) n * R.B (T + 128 * k + i) n
      * Real.exp (-((n.val : ℝ) + 1) * (R.cs (T + 128 * k) (r.val + 1) - R.cs (T + 128 * k) (i + 1)))) *
      (R.d (T + 128 * k + i) * R.u (T + 128 * k + i) p) : ℝ) : EReal)) r]
    simp only [← EReal.coe_mul, ← EReal.coe_add, ← EReal.coe_sub, Ideal.exp_coe, ← coe_sum']
    congr 1
    unfold Row.y
    simp only [Finset.sum_mul]
    rw [Finset.sum_comm, ← Finset.sum_add_distrib]
    refine Finset.sum_congr rfl fun n _ => ?_
    have hc := Cert.RealScan.closed (-((n.val : ℝ) + 1)) R.d (fun t => R.d t * R.u t p * R.B t n) (R.st n p) (fun _ => rfl) (T + 128 * k) (r.val + 1)
    rw [show T + 128 * k + r.val + 1 = T + 128 * k + (r.val + 1) by ring, hc, add_mul, Finset.sum_mul]
    congr 1
    · unfold Row.cs; ring
    · refine Finset.sum_congr rfl fun i _ => ?_
      unfold Row.cs; ring
  · intro hx
    rw [hm x hx]
    generalize R.cs (T + 128 * k) (r.val + 1) - R.cs (T + 128 * k) (x.val + 1) = δ
    simp only [h0, ← EReal.coe_mul, ← EReal.coe_add, ← EReal.coe_sub, Ideal.exp_coe]
    congr 1
    have he : ∀ n : ℕ, Real.exp (-((n : ℝ) + 1) * δ) = Real.exp (0 - δ) ^ (n + 1) := by
      intro n; rw [← Real.exp_nat_mul]; congr 1; push_cast; ring
    simp only [he]
    rw [Cert.RealScan.sum16]
    generalize Real.exp (0 - δ) = e
    refine congrArg (· * (R.d (T + 128 * k + x.val) * R.u (T + 128 * k + x.val) p)) ?_
    simp only [show (0 : Fin 16).val = 0 from rfl, show (1 : Fin 16).val = 1 from rfl, show (2 : Fin 16).val = 2 from rfl,
      show (3 : Fin 16).val = 3 from rfl, show (4 : Fin 16).val = 4 from rfl, show (5 : Fin 16).val = 5 from rfl,
      show (6 : Fin 16).val = 6 from rfl, show (7 : Fin 16).val = 7 from rfl, show (8 : Fin 16).val = 8 from rfl,
      show (9 : Fin 16).val = 9 from rfl, show (10 : Fin 16).val = 10 from rfl, show (11 : Fin 16).val = 11 from rfl,
      show (12 : Fin 16).val = 12 from rfl, show (13 : Fin 16).val = 13 from rfl, show (14 : Fin 16).val = 14 from rfl,
      show (15 : Fin 16).val = 15 from rfl]
    ring

/-- The state after `k` chunks of the block is the row's state at that step. -/
theorem stN_val (P : FVec Ideal S128x256 .f32) (S : FVec Ideal S16x256 .f32)
    (hP : ∀ (s : Fin 128) p, 125 ≤ s.val → P (ix2 s p) = (R.raw (T + s.val - 125) p : ℝ))
    (hS : ∀ n p, S (ix2 n p) = (R.st n p T : ℝ)) (k : ℕ) (hk : k ≤ 8) (n : Fin 16) (p : Fin 256) :
    stN I S P k (ix2 n p) = (R.st n p (T + 128 * k) : ℝ) := by
  induction k generalizing n p with
  | zero => exact hS n p
  | succ k ih => exact stC_val H k hk _ _ (fun r q => uC_val H P hP k hk r q) (fun m q => ih (by omega) m q) n p

/-- The chunk's outputs are the row's. -/
theorem yN_val (P : FVec Ideal S128x256 .f32) (S : FVec Ideal S16x256 .f32)
    (hP : ∀ (s : Fin 128) p, 125 ≤ s.val → P (ix2 s p) = (R.raw (T + s.val - 125) p : ℝ))
    (hS : ∀ n p, S (ix2 n p) = (R.st n p T : ℝ)) (k : ℕ) (hk : k < 8) (r : Fin 128) (p : Fin 256) :
    yN I S P k (ix3 0 r p) = R.out (T + 128 * k + r.val) p :=
  yC_val H k hk _ _ (fun q w => uC_val H P hP k hk q w) (fun m q => stN_val H P S hP hS k hk.le m q) r p

/-- The halo the block leaves: its last raw rows. -/
theorem halo_val (s : Fin 128) (p : Fin 256) (hs : 125 ≤ s.val) :
    k1_pay1 (blkU I 7) (ix2 s p) = (R.raw (T + 1024 + s.val - 125) p : ℝ) := by
  unfold k1_pay1; pointwise
  rw [blkU_val H 7 (by omega)]; congr 2; omega
end
end Cert.KI
-- ==== Proof.Reg1Val.lean ====
module

public import proofs.«01_k».proof.Proof.ChunkA
public import proofs.«01_k».proof.Proof.ChunkB
public import proofs.«01_k».proof.Proof.ChunkVal
public import proofs.«01_k».proof.Proof.Run

@[expose] public section
set_option maxRecDepth 16384
noncomputable section

/-! Region 1's output array: every batch entry's and head's row of the recurrence. -/

namespace Cert.KI
open Cert.KernelIdeal Cert.KernelIdeal.Gen
open Idealize.ShloMosaic Idealize.ShloMosaic.TcCoe

/-- Column `p` of head `h` among the 2048. -/
abbrev col (h : Fin 8) (p : Fin 256) : Fin 2048 := ⟨256 * h.val + p.val, by have := h.isLt; have := p.isLt; omega⟩

variable (V : (c : Dev nD) → (b : Ref sig .tc) → Buf (Elt Ideal) ((c : Thread nD τ).loc b)) (c : Dev nD)

/-- The region's arrays at its entry are the rows'. -/
structure Arr1 (R : Fin 2 → Fin 8 → Row) : Prop where
  raw0 : ∀ b h t p, t < 3 → (R b h).raw t p = 0
  u : ∀ (b : Fin 2) (l : Fin 4096) (h : Fin 8) (p : Fin 256), @Eq EReal (V c main_v21 (ix3 b l (col h p))) (((R b h).raw (l.val + 3) p : ℝ))
  z : ∀ (b : Fin 2) (l : Fin 4096) (h : Fin 8) (p : Fin 256), @Eq EReal (V c main_v22 (ix3 b l (col h p))) ((R b h).z l.val p)
  d : ∀ (b : Fin 2) (l : Fin 4096) (h : Fin 8), @Eq EReal (V c main_v23 (ix3 b l h)) (((R b h).d l.val : ℝ))
  B : ∀ (b : Fin 2) (h : Fin 8) (n : Fin 16) (l : Fin 4096), @Eq EReal (V c main_v10 (ix4 b h n l)) (((R b h).B l.val n : ℝ))
  C : ∀ (b : Fin 2) (h : Fin 8) (l : Fin 4096) (n : Fin 16), @Eq EReal (V c main_v13 (ix4 b h l n)) (((R b h).C l.val n : ℝ))
  ar : ∀ (h : Fin 8) (n : Fin 16), @Eq EReal (V c main_v16 (ix3 h 0 n)) (((-((n.val : ℝ) + 1) : ℝ) : EReal))
  ac : ∀ (h : Fin 8) (n : Fin 16), @Eq EReal (V c main_v17 (ix3 h n 0)) (((-((n.val : ℝ) + 1) : ℝ) : EReal))
  w : ∀ (b : Fin 2) (h : Fin 8) (q : Fin 4) (p : Fin 256), @Eq EReal (V c main_v19 (ix3 h q p)) (((R b h).w q p : ℝ))
  cb : ∀ (b : Fin 2) (h : Fin 8) (p : Fin 256), @Eq EReal (V c main_v20 (ix3 h 0 p)) (((R b h).cb p : ℝ))
  D : ∀ (b : Fin 2) (h : Fin 8) (p : Fin 256), @Eq EReal (V c main_v24 (ix3 h 0 p)) ((R b h).D p)
  s0 : ∀ (m : Fin 384) (s : Fin 128), @Eq EReal (V c main_v91 (ix3 0 m s)) (if s.val + (m.val / 128 + 1) = m.val % 128 then (1 : EReal) else 0)
  s1 : ∀ (m : Fin 384) (s : Fin 128), @Eq EReal (V c main_v91 (ix3 1 m s)) (if s.val + (m.val / 128 + 1) = m.val % 128 + 128 then (1 : EReal) else 0)

/-- What grid point `t` reads. -/
abbrev inp (t : Fin cfg1.N) : Ins Ideal :=
  ⟨Scalar.remsi (BitVec.ofNat 32 (grid1.coords t 0)) 8#32, iblk1 V c 0 t, iblk1 V c 1 t, iblk1 V c 2 t, iblk1 V c 3 t, iblk1 V c 4 t,
    iblk1 V c 5 t, iblk1 V c 6 t, iblk1 V c 7 t, iblk1 V c 8 t, iblk1 V c 9 t, iblk1 V c 10 t⟩

theorem N1 : cfg1.N = 64 := by decide +kernel
/-- The point's batch entry and head. -/
def pb (t : Fin cfg1.N) : Fin 2 := ⟨t.val / 32, by have := t.isLt; have := N1; omega⟩
def ph (t : Fin cfg1.N) : Fin 8 := ⟨t.val / 4 % 8, Nat.mod_lt _ (by decide)⟩

theorem idx1_0 : ∀ t : Fin cfg1.N, win1_0.index t = ![t.val / 32, t.val % 4, t.val / 4 % 8] := (by decide +kernel : ∀ t : Fin grid1.N, _)
theorem idx1_1 : ∀ t : Fin cfg1.N, win1_1.index t = ![t.val / 32, t.val % 4, t.val / 4 % 8] := (by decide +kernel : ∀ t : Fin grid1.N, _)
theorem idx1_2 : ∀ t : Fin cfg1.N, win1_2.index t = ![t.val / 32, t.val % 4, 0] := (by decide +kernel : ∀ t : Fin grid1.N, _)
theorem idx1_3 : ∀ t : Fin cfg1.N, win1_3.index t = ![t.val / 32, t.val / 4 % 8, 0, t.val % 4] := (by decide +kernel : ∀ t : Fin grid1.N, _)
theorem idx1_4 : ∀ t : Fin cfg1.N, win1_4.index t = ![t.val / 32, t.val / 4 % 8, t.val % 4, 0] := (by decide +kernel : ∀ t : Fin grid1.N, _)
theorem idx1_5 : ∀ t : Fin cfg1.N, win1_5.index t = ![t.val / 4 % 8, 0, 0] := (by decide +kernel : ∀ t : Fin grid1.N, _)
theorem idx1_6 : ∀ t : Fin cfg1.N, win1_6.index t = ![t.val / 4 % 8, 0, 0] := (by decide +kernel : ∀ t : Fin grid1.N, _)
theorem idx1_7 : ∀ t : Fin cfg1.N, win1_7.index t = ![t.val / 4 % 8, 0, 0] := (by decide +kernel : ∀ t : Fin grid1.N, _)
theorem idx1_8 : ∀ t : Fin cfg1.N, win1_8.index t = ![t.val / 4 % 8, 0, 0] := (by decide +kernel : ∀ t : Fin grid1.N, _)
theorem idx1_9 : ∀ t : Fin cfg1.N, win1_9.index t = ![t.val / 4 % 8, 0, 0] := (by decide +kernel : ∀ t : Fin grid1.N, _)
theorem idx1_10 : ∀ t : Fin cfg1.N, win1_10.index t = ![0, 0, 0] := (by decide +kernel : ∀ t : Fin grid1.N, _)
theorem idx1_11 : ∀ t : Fin cfg1.N, win1_11.index t = ![t.val / 32, t.val % 4, t.val / 4 % 8] := (by decide +kernel : ∀ t : Fin grid1.N, _)
theorem head1 : ∀ t : Fin cfg1.N, Scalar.remsi (BitVec.ofNat 32 (grid1.coords t 0)) 8#32 = BitVec.ofNat 32 (t.val / 4 % 8) :=
  (by decide +kernel : ∀ t : Fin grid1.N, _)

/-- Row `r` of the point's block, in the sequence. -/
def pl (t : Fin cfg1.N) (r : Fin 1024) : Fin 4096 := ⟨1024 * (t.val % 4) + r.val, by have := r.isLt; omega⟩

theorem blk1_0 (t : Fin cfg1.N) (r : Fin 1024) (p : Fin 256) : @Eq EReal (iblk1 V c 0 t (ix3 0 r p)) (V c main_v21 (ix3 (pb t) (pl t r) (col (ph t) p))) := by
  have ht := t.isLt; have hN := N1
  unfold pb ph pl
  blk_ext [iblk1, idx1_0]
theorem blk1_1 (t : Fin cfg1.N) (r : Fin 1024) (p : Fin 256) : @Eq EReal (iblk1 V c 1 t (ix3 0 r p)) (V c main_v22 (ix3 (pb t) (pl t r) (col (ph t) p))) := by
  have ht := t.isLt; have hN := N1
  unfold pb ph pl
  blk_ext [iblk1, idx1_1]
theorem blk1_2 (t : Fin cfg1.N) (r : Fin 1024) (h : Fin 8) : @Eq EReal (iblk1 V c 2 t (ix3 0 r h)) (V c main_v23 (ix3 (pb t) (pl t r) h)) := by
  have ht := t.isLt; have hN := N1
  unfold pb pl
  blk_ext [iblk1, idx1_2]
theorem blk1_3 (t : Fin cfg1.N) (n : Fin 16) (r : Fin 1024) : @Eq EReal (iblk1 V c 3 t (ix4 0 0 n r)) (V c main_v10 (ix4 (pb t) (ph t) n (pl t r))) := by
  have ht := t.isLt; have hN := N1
  unfold pb ph pl
  blk_ext [iblk1, idx1_3]
theorem blk1_4 (t : Fin cfg1.N) (r : Fin 1024) (n : Fin 16) : @Eq EReal (iblk1 V c 4 t (ix4 0 0 r n)) (V c main_v13 (ix4 (pb t) (ph t) (pl t r) n)) := by
  have ht := t.isLt; have hN := N1
  unfold pb ph pl
  blk_ext [iblk1, idx1_4]
theorem blk1_5 (t : Fin cfg1.N) (n : Fin 16) : @Eq EReal (iblk1 V c 5 t (ix3 0 0 n)) (V c main_v16 (ix3 (ph t) 0 n)) := by
  have ht := t.isLt; have hN := N1
  unfold ph
  blk_ext [iblk1, idx1_5]
theorem blk1_6 (t : Fin cfg1.N) (n : Fin 16) : @Eq EReal (iblk1 V c 6 t (ix3 0 n 0)) (V c main_v17 (ix3 (ph t) n 0)) := by
  have ht := t.isLt; have hN := N1
  unfold ph
  blk_ext [iblk1, idx1_6]
theorem blk1_7 (t : Fin cfg1.N) (q : Fin 4) (p : Fin 256) : @Eq EReal (iblk1 V c 7 t (ix3 0 q p)) (V c main_v19 (ix3 (ph t) q p)) := by
  have ht := t.isLt; have hN := N1
  unfold ph
  blk_ext [iblk1, idx1_7]
theorem blk1_8 (t : Fin cfg1.N) (p : Fin 256) : @Eq EReal (iblk1 V c 8 t (ix3 0 0 p)) (V c main_v20 (ix3 (ph t) 0 p)) := by
  have ht := t.isLt; have hN := N1
  unfold ph
  blk_ext [iblk1, idx1_8]
theorem blk1_9 (t : Fin cfg1.N) (p : Fin 256) : @Eq EReal (iblk1 V c 9 t (ix3 0 0 p)) (V c main_v24 (ix3 (ph t) 0 p)) := by
  have ht := t.isLt; have hN := N1
  unfold ph
  blk_ext [iblk1, idx1_9]
theorem blk1_10 (t : Fin cfg1.N) (a : Fin 2) (m : Fin 384) (s : Fin 128) : @Eq EReal (iblk1 V c 10 t (ix3 a m s)) (V c main_v91 (ix3 a m s)) := by
  have ht := t.isLt; have hN := N1
  skip
  blk_ext [iblk1, idx1_10]

variable {R : Fin 2 → Fin 8 → Row} (H : Arr1 V c R)
include H

set_option maxHeartbeats 1000000 in
theorem reads1 (t : Fin cfg1.N) : Reads (R (pb t) (ph t)) (inp V c t) (1024 * (t.val % 4)) (ph t) where
  h := head1 t
  x0 r p := (blk1_0 V c t r p).trans (H.u _ _ _ p)
  x1 r p := (blk1_1 V c t r p).trans (H.z _ _ _ p)
  x2 r := (blk1_2 V c t r _).trans (H.d _ _ _)
  x3 n r := (blk1_3 V c t n r).trans (H.B _ _ n _)
  x4 r n := (blk1_4 V c t r n).trans (H.C _ _ _ n)
  x5 n := (blk1_5 V c t n).trans (H.ar _ n)
  x6 n := (blk1_6 V c t n).trans (H.ac _ n)
  x7 q p := (blk1_7 V c t q p).trans (H.w (pb t) _ q p)
  x8 p := (blk1_8 V c t p).trans (H.cb (pb t) _ p)
  x9 p := (blk1_9 V c t p).trans (H.D (pb t) _ p)
  s0 m s := (blk1_10 V c t 0 m s).trans (H.s0 m s)
  s1 m s := (blk1_10 V c t 1 m s).trans (H.s1 m s)
end Cert.KI
-- ==== Proof.Reg1Arr.lean ====
module

public import proofs.«01_k».proof.Proof.Reg1Val

@[expose] public section
set_option maxRecDepth 16384
noncomputable section

/-! Region 1's output array, by induction over the points of each row. -/

namespace Cert.KI
open Cert.KernelIdeal Cert.KernelIdeal.Gen
open Idealize.ShloMosaic Idealize.ShloMosaic.TcCoe

theorem ix3_unit {n1 n2 : ℕ} (x : (⟨3, ![1, n1, n2]⟩ : Shape).Idx) : ∃ (q : Fin n1) (w : Fin n2), x = ix3 (0 : Fin 1) q w :=
  ⟨x 1, x 2, by
    funext a
    fin_cases a
    · exact Subsingleton.elim (α := Fin 1) _ _
    · rfl
    · rfl⟩

theorem yTiled (I : Ins Ideal) (S : FVec Ideal S16x256 .f32) (P : FVec Ideal S128x256 .f32) :
    ∀ y : S1x1024x256.Idx, ∃ p ∈ yPieces I S P, y ∈ p.1.set :=
  View.cover_of_tiledL (yPieces I S P) S1x128x256.size (by sl_kernel_rfl)

/-- A point's whole output block is the row's. -/
theorem canon_val {R : Row} {I : Ins Ideal} {T : ℕ} {hd : Fin 8} (H : Reads R I T hd) (P : FVec Ideal S128x256 .f32) (S : FVec Ideal S16x256 .f32)
    (hP : ∀ (s : Fin 128) p, 125 ≤ s.val → P (ix2 s p) = (R.raw (T + s.val - 125) p : ℝ))
    (hS : ∀ n p, S (ix2 n p) = (R.st n p T : ℝ)) (r : Fin 1024) (p : Fin 256) :
    @Eq EReal (View.canon (yPieces I S P) (ix3 0 r p)) (R.out (T + r.val) p) := by
  have key : ∀ (k off : ℕ) (hk : k < 8) (ho : off = 128 * k) (inb) (x : S1x128x256.Idx), @Eq EReal (yN I S P k x)
      ((fun y : S1x1024x256.Idx => (R.out (T + (y 1).val) (y 2) : EReal)) ((Rect.unit (s := S1x1024x256) ![0, off, 0] S1x128x256.size inb).emb x)) := by
    intro k off hk ho inb x
    obtain ⟨q, w, rfl⟩ : ∃ (q : Fin 128) (w : Fin 256), x = ix3 (0 : Fin 1) q w := ix3_unit x
    rw [yN_val H P S hP hS k hk]
    have e1 : ((Rect.unit (s := S1x1024x256) ![0, off, 0] S1x128x256.size inb).emb (ix3 (0 : Fin 1) q w) 1).val = off + q.val :=
      ValueKit.rect_emb_unit_val _ _ _ _ _
    have e2 : (Rect.unit (s := S1x1024x256) ![0, off, 0] S1x128x256.size inb).emb (ix3 (0 : Fin 1) q w) 2 = w := by
      apply Fin.ext
      refine (ValueKit.rect_emb_unit_val _ _ _ _ _).trans ?_
      exact Nat.zero_add _
    beta_reduce
    rw [e1, e2, ho, ← Nat.add_assoc]
  have hp : View.PiecesOf (fun y : S1x1024x256.Idx => (R.out (T + (y 1).val) (y 2) : EReal)) (yPieces I S P) :=
    ⟨key 7 896 (by omega) rfl inb_S1x1024x256_S1x128x256_0_896_0, key 6 768 (by omega) rfl inb_S1x1024x256_S1x128x256_0_768_0, key 5 640 (by omega) rfl inb_S1x1024x256_S1x128x256_0_640_0, key 4 512 (by omega) rfl inb_S1x1024x256_S1x128x256_0_512_0, key 3 384 (by omega) rfl inb_S1x1024x256_S1x128x256_0_384_0,
      key 2 256 (by omega) rfl inb_S1x1024x256_S1x128x256_0_256_0, key 1 128 (by omega) rfl inb_S1x1024x256_S1x128x256_0_128_0, key 0 0 (by omega) rfl inb_S1x1024x256_S1x128x256_0_0_0, trivial⟩
  exact View.canon_apply_of_pieces (fun y : S1x1024x256.Idx => (R.out (T + (y 1).val) (y 2) : EReal)) (yPieces I S P) hp.mem _ (yTiled I S P _)

theorem pay2_zero (n : Fin 16) (p : Fin 256) : (k1_pay2 : FVec Ideal S16x256 .f32) (ix2 n p) = (0 : EReal) := by
  unfold k1_pay2; pointwise
theorem pay3_zero (n : Fin 128) (p : Fin 256) : (k1_pay3 : FVec Ideal S128x256 .f32) (ix2 n p) = (0 : EReal) := by
  unfold k1_pay3; pointwise

variable (V : (c : Dev nD) → (b : Ref sig .tc) → Buf (Elt Ideal) ((c : Thread nD τ).loc b)) (c : Dev nD)
variable {R : Fin 2 → Fin 8 → Row}

/-- What a point leaves is its rows': the output block, the state after it, the last raw rows. -/
structure Left (R : Row) (T : ℕ) (o : Vec Ideal S1x1024x256 .bf16) (s : Vec Ideal S16x256 .f32) (h : Vec Ideal S128x256 .f32) : Prop where
  out : ∀ (r : Fin 1024) (p : Fin 256), @Eq EReal (o (ix3 0 r p)) (R.out (T + r.val) p)
  st : ∀ n p, @Eq EReal (s (ix2 n p)) (R.st n p (T + 1024) : ℝ)
  halo : ∀ (s : Fin 128) p, 125 ≤ s.val → @Eq EReal (h (ix2 s p)) (R.raw (T + 1024 + s.val - 125) p : ℝ)

theorem stN_left {R : Row} {I : Ins Ideal} {T : ℕ} {hd : Fin 8} (H : Reads R I T hd) (P : FVec Ideal S128x256 .f32) (S : FVec Ideal S16x256 .f32)
    (hP : ∀ (s : Fin 128) p, 125 ≤ s.val → P (ix2 s p) = (R.raw (T + s.val - 125) p : ℝ))
    (hS : ∀ n p, S (ix2 n p) = (R.st n p T : ℝ)) (N : ℕ) (hN : N = 8) (n : Fin 16) (p : Fin 256) :
    @Eq EReal (stN I S P N (ix2 n p)) (R.st n p (T + 1024) : ℝ) := by
  rw [stN_val H P S hP hS N hN.le n p, hN]

theorem left_of {R : Row} {I : Ins Ideal} {T : ℕ} {hd : Fin 8} (H : Reads R I T hd) (P : FVec Ideal S128x256 .f32) (S : FVec Ideal S16x256 .f32)
    (hP : ∀ (s : Fin 128) p, 125 ≤ s.val → P (ix2 s p) = (R.raw (T + s.val - 125) p : ℝ))
    (hS : ∀ n p, S (ix2 n p) = (R.st n p T : ℝ)) :
    Left R T (View.canon (yPieces I S P)) (stN I S P 8) (k1_pay1 (blkU I 7)) :=
  ⟨canon_val H P S hP hS, stN_left H P S hP hS 8 rfl, halo_val H⟩

theorem left1 (H : Arr1 V c R) : ∀ (n : ℕ) (hn : n < cfg1.N),
    Left (R (pb ⟨n, hn⟩) (ph ⟨n, hn⟩)) (1024 * (n % 4)) (outsAt1 V c n hn).1 (outsAt1 V c n hn).2.1 (outsAt1 V c n hn).2.2 := by
  intro n
  induction n with
  | zero =>
    intro hn
    rw [outsAt1_A V c ⟨0, hn⟩ rfl]
    simp only [out1_A_11_eq, sout1_A_0_eq, sout1_A_1_eq]
    exact left_of (reads1 V c H ⟨0, hn⟩) _ _
      (fun s p hs => by rw [pay3_zero, H.raw0 _ _ _ _ (by have := s.isLt; simp only; omega)]; rfl) (fun n p => (pay2_zero n p).trans rfl)
  | succ n ih =>
    intro hn
    by_cases h0 : (n + 1) % 4 = 0
    · rw [outsAt1_A V c ⟨n + 1, hn⟩ h0]
      simp only [out1_A_11_eq, sout1_A_0_eq, sout1_A_1_eq]
      have hR := reads1 V c H ⟨n + 1, hn⟩
      rw [show 1024 * ((n + 1) % 4) = 0 by omega]
      rw [show 1024 * ((⟨n + 1, hn⟩ : Fin cfg1.N).val % 4) = 0 by simp only; omega] at hR
      exact left_of hR _ _
        (fun s p hs => by rw [pay3_zero, H.raw0 _ _ _ _ (by have := s.isLt; omega)]; rfl) (fun n p => (pay2_zero n p).trans rfl)
    · rw [outsAt1_B V c ⟨n + 1, hn⟩ h0]
      simp only [out1_B_11_eq, sout1_B_0_eq, sout1_B_1_eq]
      have hp := ih (Nat.lt_of_succ_lt hn)
      have eb : pb ⟨n, Nat.lt_of_succ_lt hn⟩ = pb ⟨n + 1, hn⟩ := by unfold pb; apply Fin.ext; simp only; omega
      have eh : ph ⟨n, Nat.lt_of_succ_lt hn⟩ = ph ⟨n + 1, hn⟩ := by unfold ph; apply Fin.ext; simp only; omega
      have eT : 1024 * (n % 4) + 1024 = 1024 * ((n + 1) % 4) := by omega
      rw [eb, eh] at hp
      exact left_of (reads1 V c H ⟨n + 1, hn⟩) _ _ (fun s p hs => (hp.halo s p hs).trans (by rw [eT]))
        (fun m p => (hp.st m p).trans (by rw [eT]))

/-- The region's output array. -/
def G1 (R : Fin 2 → Fin 8 → Row) : Vec Ideal S2x4096x2048 .bf16 := fun i =>
  (R (i 0) ⟨(i 2).val / 256, by have : (i 2).val < 2048 := (i 2).isLt; omega⟩).out (i 1).val ⟨(i 2).val % 256, Nat.mod_lt _ (by decide)⟩

theorem G1_at (i : S2x4096x2048.Idx) (b : Fin 2) (h : Fin 8) (l : ℕ) (p : Fin 256) (e0 : (i 0).val = b.val) (e1 : (i 1).val = l)
    (e2 : (i 2).val = 256 * h.val + p.val) : @Eq EReal (G1 R i) ((R b h).out l p) := by
  have hp := p.isLt
  unfold G1
  have h0 : (i 0 : Fin 2) = b := Fin.ext e0
  have h1 : ∀ q, (⟨(i 2).val / 256, q⟩ : Fin 8) = h := fun q => Fin.ext (by simp only [e2]; omega)
  have h2 : ∀ q, (⟨(i 2).val % 256, q⟩ : Fin 256) = p := fun q => Fin.ext (by simp only [e2]; omega)
  rw [h1, h2, e1]
  exact congrArg (fun b => (R b h).out l p) h0

theorem arr1 (H : Arr1 V c R) : (dat1 V c).arrAt 11 cfg1.N = G1 R := by
  refine (dat1 V c).arrAt_eq_of_covers 11 _ (by decide +kernel) fun t hf y => ?_
  blk_simp
  rw [after1_11]
  have hN := N1; have ht := t.isLt
  have hl := left1 V c H t.val t.isLt
  obtain ⟨q, w, rfl⟩ : ∃ (q : Fin 1024) (w : Fin 256), y = ix3 (0 : Fin 1) q w := ix3_unit y
  refine (hl.out q w).trans (G1_at _ (pb t) (ph t) _ w ?_ ?_ ?_).symm
  · unfold pb; blk_simp [idx1_11]; rfl
  · blk_simp [idx1_11]; rw [Nat.mul_comm]
  · unfold ph; blk_simp [idx1_11]; rw [Nat.mul_comm]
end Cert.KI
-- ==== Proof.Reg02Val.lean ====
module

public import proofs.«01_k».proof.Proof.Reg1Val
public import proofs.«01_k».proof.Proof.Run

@[expose] public section
set_option maxRecDepth 16384
noncomputable section

/-! Regions 0 and 2: their output arrays, entry by entry, of the arrays they start from. -/

namespace Cert.KI
open Cert.KernelIdeal Cert.KernelIdeal.Gen
open Idealize.ShloMosaic Idealize.ShloMosaic.TcCoe

/-- The clipped softplus of the kernel and of the reference. -/
def clip (s : EReal) : EReal :=
  min 1 (max (Ideal.ofBits FTy.f32 953267991#32)
    (if s ≠ s then s else max s 0 + Ideal.log1p (Ideal.exp (0 - FloatOps.absf (F := Ideal) (φ := .f32) s))))

/-- The product of the rows of two arrays. -/
def dotT {m n k : ℕ} (x : Fin m → Fin k → EReal) (w : Fin n → Fin k → EReal) (r : Fin m) (q : Fin n) : EReal :=
  ∑ j : Fin k, x r j * w q j

theorem pay4_at (x : Vec Ideal S512x1024 .f32) (w : Vec Ideal S2048x1024 .f32) (r : Fin 512) (q : Fin 2048) :
    @Eq EReal (k0_pay4 x w (ix2 r q)) (∑ k : Fin 1024, @HMul.hMul EReal EReal EReal _ (x (ix2 r k)) (w (ix2 q k))) := by
  unfold k0_pay4 k0_pay3; pointwise
theorem pay5_at (x : Vec Ideal S512x1024 .f32) (w : Vec Ideal S2048x1024 .f32) (r : Fin 512) (q : Fin 2048) :
    @Eq EReal (k0_pay5 x w (ix2 r q)) (∑ k : Fin 1024, @HMul.hMul EReal EReal EReal _ (x (ix2 r k)) (w (ix2 q k))) := by
  unfold k0_pay5 k0_pay3; pointwise
theorem pay2_at (x : Vec Ideal S512x1024 .f32) (w : Vec Ideal S256x1024 .f32) (r : Fin 512) (q : Fin 256) :
    @Eq EReal (k0_pay2 (k0_pay3 x) w (ix2 r q)) (∑ k : Fin 1024, @HMul.hMul EReal EReal EReal _ (x (ix2 r k)) (w (ix2 q k))) := by
  unfold k0_pay2 k0_pay3; pointwise
theorem pay6_at (x : Vec Ideal S512x1024 .f32) (w : Vec Ideal S8x1024 .f32) (b : Vec Ideal S1x8 .f32) (r : Fin 512) (q : Fin 8) :
    @Eq EReal (k0_pay1 (k0_pay6 x w b) k0_pay7 (ix2 r q))
      (clip ((∑ k : Fin 1024, @HMul.hMul EReal EReal EReal _ (x (ix2 r k)) (w (ix2 q k))) + (b (ix2 0 q) : EReal))) := by
  unfold k0_pay1 k0_pay6 k0_pay7 k0_pay3 clip; pointwise

/-- Region 2's entry, of its rows. -/
def outRow (x : Fin 1024 → EReal) (wr : Fin 2048 → Fin 1024 → EReal) (g nw wo : Fin 2048 → EReal) : EReal :=
  ∑ e : Fin 2048, (g e + ∑ k, x k * wr e k) *
    Ideal.rsqrt (Ideal.div (∑ e : Fin 2048, (g e + ∑ k, x k * wr e k) * (g e + ∑ k, x k * wr e k)) (Ideal.ofBits FTy.f32 1157627904#32)
      + Ideal.ofBits FTy.f32 897988541#32) * nw e * wo e

theorem pay21_at (x : Vec Ideal S512x1024 .f32) (wr : Vec Ideal S2048x1024 .f32) (g : Vec Ideal S512x2048 .bf16) (nw : Vec Ideal S1x2048 .f32) (wo : Vec Ideal S1024x2048 .f32) (r : Fin 512) (q : Fin 1024) :
    @Eq EReal (k2_pay1 x wr g nw wo (ix2 r q))
      (outRow (fun k => x (ix2 r k)) (fun e k => wr (ix2 e k)) (fun e => g (ix2 r e)) (fun e => nw (ix2 0 e)) (fun e => wo (ix2 q e))) := by
  unfold k2_pay1 outRow; pointwise

variable (V : (c : Dev nD) → (b : Ref sig .tc) → Buf (Elt Ideal) ((c : Thread nD τ).loc b)) (c : Dev nD)

theorem N0 : cfg0.N = 16 := by decide +kernel
theorem N2 : cfg2.N = 16 := by decide +kernel
/-- The row of the whole array that row `r` of point `t` is. -/
def row0 (t : Fin cfg0.N) (r : Fin 512) : Fin 8192 := ⟨512 * t.val + r.val, by have := t.isLt; have := N0; omega⟩
def row2 (t : Fin cfg2.N) (r : Fin 512) : Fin 8192 := ⟨512 * t.val + r.val, by have := t.isLt; have := N2; omega⟩
theorem idx0_0 : ∀ t : Fin cfg0.N, win0_0.index t = ![t.val, 0] := (by decide +kernel : ∀ t : Fin grid0.N, _)
theorem blk0_0 (t : Fin cfg0.N) (r : Fin 512) (q : Fin 1024) : @Eq EReal (iblk0 V c 0 t (ix2 r q)) (V c main_v0 (ix2 (row0 t r) q)) := by
  have ht := t.isLt; have hN := N0
  unfold row0
  blk_ext [iblk0, idx0_0]
theorem idx0_1 : ∀ t : Fin cfg0.N, win0_1.index t = ![0, 0] := (by decide +kernel : ∀ t : Fin grid0.N, _)
theorem blk0_1 (t : Fin cfg0.N) (r : Fin 2048) (q : Fin 1024) : @Eq EReal (iblk0 V c 1 t (ix2 r q)) (V c main_v1 (ix2 r q)) := by
  blk_ext [iblk0, idx0_1]
theorem idx0_2 : ∀ t : Fin cfg0.N, win0_2.index t = ![0, 0] := (by decide +kernel : ∀ t : Fin grid0.N, _)
theorem blk0_2 (t : Fin cfg0.N) (r : Fin 2048) (q : Fin 1024) : @Eq EReal (iblk0 V c 2 t (ix2 r q)) (V c main_v2 (ix2 r q)) := by
  blk_ext [iblk0, idx0_2]
theorem idx0_3 : ∀ t : Fin cfg0.N, win0_3.index t = ![0, 0] := (by decide +kernel : ∀ t : Fin grid0.N, _)
theorem blk0_3 (t : Fin cfg0.N) (r : Fin 8) (q : Fin 1024) : @Eq EReal (iblk0 V c 3 t (ix2 r q)) (V c main_v5 (ix2 r q)) := by
  blk_ext [iblk0, idx0_3]
theorem idx0_4 : ∀ t : Fin cfg0.N, win0_4.index t = ![0, 0] := (by decide +kernel : ∀ t : Fin grid0.N, _)
theorem blk0_4 (t : Fin cfg0.N) (r : Fin 256) (q : Fin 1024) : @Eq EReal (iblk0 V c 4 t (ix2 r q)) (V c main_v4 (ix2 r q)) := by
  blk_ext [iblk0, idx0_4]
theorem idx0_5 : ∀ t : Fin cfg0.N, win0_5.index t = ![0, 0] := (by decide +kernel : ∀ t : Fin grid0.N, _)
theorem blk0_5 (t : Fin cfg0.N) (r : Fin 1) (q : Fin 8) : @Eq EReal (iblk0 V c 5 t (ix2 r q)) (V c main_v6 (ix2 r q)) := by
  blk_ext [iblk0, idx0_5]
theorem idx2_0 : ∀ t : Fin cfg2.N, win2_0.index t = ![t.val, 0] := (by decide +kernel : ∀ t : Fin grid2.N, _)
theorem blk2_0 (t : Fin cfg2.N) (r : Fin 512) (q : Fin 2048) : @Eq EReal (iblk2 V c 0 t (ix2 r q)) (V c main_v93 (ix2 (row2 t r) q)) := by
  have ht := t.isLt; have hN := N2
  unfold row2
  blk_ext [iblk2, idx2_0]
theorem idx2_1 : ∀ t : Fin cfg2.N, win2_1.index t = ![t.val, 0] := (by decide +kernel : ∀ t : Fin grid2.N, _)
theorem blk2_1 (t : Fin cfg2.N) (r : Fin 512) (q : Fin 1024) : @Eq EReal (iblk2 V c 1 t (ix2 r q)) (V c main_v0 (ix2 (row2 t r) q)) := by
  have ht := t.isLt; have hN := N2
  unfold row2
  blk_ext [iblk2, idx2_1]
theorem idx2_2 : ∀ t : Fin cfg2.N, win2_2.index t = ![0, 0] := (by decide +kernel : ∀ t : Fin grid2.N, _)
theorem blk2_2 (t : Fin cfg2.N) (r : Fin 2048) (q : Fin 1024) : @Eq EReal (iblk2 V c 2 t (ix2 r q)) (V c main_arg10 (ix2 r q)) := by
  blk_ext [iblk2, idx2_2]
theorem idx2_3 : ∀ t : Fin cfg2.N, win2_3.index t = ![0, 0] := (by decide +kernel : ∀ t : Fin grid2.N, _)
theorem blk2_3 (t : Fin cfg2.N) (r : Fin 1024) (q : Fin 2048) : @Eq EReal (iblk2 V c 3 t (ix2 r q)) (V c main_arg9 (ix2 r q)) := by
  blk_ext [iblk2, idx2_3]
theorem idx2_4 : ∀ t : Fin cfg2.N, win2_4.index t = ![0, 0] := (by decide +kernel : ∀ t : Fin grid2.N, _)
theorem blk2_4 (t : Fin cfg2.N) (r : Fin 1) (q : Fin 2048) : @Eq EReal (iblk2 V c 4 t (ix2 r q)) (V c main_v94 (ix2 r q)) := by
  blk_ext [iblk2, idx2_4]
theorem out0_6_eq (x0 : Vec Ideal S512x1024 .f32) (x1 : Vec Ideal S2048x1024 .f32) (x2 : Vec Ideal S2048x1024 .f32) (x3 : Vec Ideal S8x1024 .f32) (x4 : Vec Ideal S256x1024 .f32) (x5 : Vec Ideal S1x8 .f32) :
    out0_6 x0 x1 x2 x3 x4 x5 = k0_pay4 x0 x1 := by
  unfold out0_6
  simp (disch := decide) only [↓View.canon_cons_unit_lit', View.ld_unit_lit']
theorem out0_7_eq (x0 : Vec Ideal S512x1024 .f32) (x1 : Vec Ideal S2048x1024 .f32) (x2 : Vec Ideal S2048x1024 .f32) (x3 : Vec Ideal S8x1024 .f32) (x4 : Vec Ideal S256x1024 .f32) (x5 : Vec Ideal S1x8 .f32) :
    out0_7 x0 x1 x2 x3 x4 x5 = k0_pay5 x0 x2 := by
  unfold out0_7
  simp (disch := decide) only [↓View.canon_cons_unit_lit', View.ld_unit_lit']
theorem out0_8_eq (x0 : Vec Ideal S512x1024 .f32) (x1 : Vec Ideal S2048x1024 .f32) (x2 : Vec Ideal S2048x1024 .f32) (x3 : Vec Ideal S8x1024 .f32) (x4 : Vec Ideal S256x1024 .f32) (x5 : Vec Ideal S1x8 .f32) :
    out0_8 x0 x1 x2 x3 x4 x5 = k0_pay1 (k0_pay6 x0 x3 x5) k0_pay7 := by
  unfold out0_8
  simp (disch := decide) only [↓View.canon_cons_unit_lit', View.ld_unit_lit']
theorem out0_9_eq (x0 : Vec Ideal S512x1024 .f32) (x1 : Vec Ideal S2048x1024 .f32) (x2 : Vec Ideal S2048x1024 .f32) (x3 : Vec Ideal S8x1024 .f32) (x4 : Vec Ideal S256x1024 .f32) (x5 : Vec Ideal S1x8 .f32) :
    out0_9 x0 x1 x2 x3 x4 x5 = k0_pay2 (k0_pay3 x0) x4 := by
  unfold out0_9
  simp (disch := decide) only [↓View.canon_cons_unit_lit', View.ld_unit_lit']
theorem out2_5_eq (x0 : Vec Ideal S512x2048 .bf16) (x1 : Vec Ideal S512x1024 .f32) (x2 : Vec Ideal S2048x1024 .f32) (x3 : Vec Ideal S1024x2048 .f32) (x4 : Vec Ideal S1x2048 .f32) :
    out2_5 x0 x1 x2 x3 x4 = k2_pay1 x1 x2 x0 x4 x3 := by
  unfold out2_5
  simp (disch := decide) only [↓View.canon_cons_unit_lit', View.ld_unit_lit']
theorem idx0_6 : ∀ t : Fin cfg0.N, win0_6.index t = ![t.val, 0] := (by decide +kernel : ∀ t : Fin grid0.N, _)
theorem arr0_6 : (dat0 V c).arrAt 6 cfg0.N = (fun i => ((∑ k : Fin 1024, @HMul.hMul EReal EReal EReal _ (V c main_v0 (ix2 (i 0) k)) (V c main_v1 (ix2 (i 1) k))) : EReal) : Vec Ideal S8192x2048 .bf16) := by
  refine (dat0 V c).arrAt_eq_of_covers 6 _ (by decide +kernel) fun t hf y => ?_
  blk_simp
  rw [after0_6, out0_6_eq]
  idx_vars y
  have ht := t.isLt; have hN := N0
  have e0 : ((View.whole main_v7_0).slice (win0_6.rect t)).emb (ix2 y0 y1) 0 = row0 t y0 := by
    apply Fin.ext; unfold row0; blk_simp [idx0_6]; rw [Nat.mul_comm]
  have e1 : ((View.whole main_v7_0).slice (win0_6.rect t)).emb (ix2 y0 y1) 1 = y1 := by
    apply Fin.ext; blk_simp [idx0_6]
  refine (pay4_at _ _ y0 y1).trans ?_
  rw [e0, e1]
  exact Finset.sum_congr rfl fun k _ => by rw [blk0_0 V c t y0 k, blk0_1 V c t y1 k]
theorem idx0_7 : ∀ t : Fin cfg0.N, win0_7.index t = ![t.val, 0] := (by decide +kernel : ∀ t : Fin grid0.N, _)
theorem arr0_7 : (dat0 V c).arrAt 7 cfg0.N = (fun i => ((∑ k : Fin 1024, @HMul.hMul EReal EReal EReal _ (V c main_v0 (ix2 (i 0) k)) (V c main_v2 (ix2 (i 1) k))) : EReal) : Vec Ideal S8192x2048 .bf16) := by
  refine (dat0 V c).arrAt_eq_of_covers 7 _ (by decide +kernel) fun t hf y => ?_
  blk_simp
  rw [after0_7, out0_7_eq]
  idx_vars y
  have ht := t.isLt; have hN := N0
  have e0 : ((View.whole main_v7_1).slice (win0_7.rect t)).emb (ix2 y0 y1) 0 = row0 t y0 := by
    apply Fin.ext; unfold row0; blk_simp [idx0_7]; rw [Nat.mul_comm]
  have e1 : ((View.whole main_v7_1).slice (win0_7.rect t)).emb (ix2 y0 y1) 1 = y1 := by
    apply Fin.ext; blk_simp [idx0_7]
  refine (pay5_at _ _ y0 y1).trans ?_
  rw [e0, e1]
  exact Finset.sum_congr rfl fun k _ => by rw [blk0_0 V c t y0 k, blk0_2 V c t y1 k]
theorem idx0_8 : ∀ t : Fin cfg0.N, win0_8.index t = ![t.val, 0] := (by decide +kernel : ∀ t : Fin grid0.N, _)
theorem arr0_8 : (dat0 V c).arrAt 8 cfg0.N = (fun i => (clip ((∑ k : Fin 1024, @HMul.hMul EReal EReal EReal _ (V c main_v0 (ix2 (i 0) k)) (V c main_v5 (ix2 (i 1) k))) + (V c main_v6 (ix2 0 (i 1)) : EReal)) : EReal) : Vec Ideal S8192x8 .f32) := by
  refine (dat0 V c).arrAt_eq_of_covers 8 _ (by decide +kernel) fun t hf y => ?_
  blk_simp
  rw [after0_8, out0_8_eq]
  idx_vars y
  have ht := t.isLt; have hN := N0
  have e0 : ((View.whole main_v7_2).slice (win0_8.rect t)).emb (ix2 y0 y1) 0 = row0 t y0 := by
    apply Fin.ext; unfold row0; blk_simp [idx0_8]; rw [Nat.mul_comm]
  have e1 : ((View.whole main_v7_2).slice (win0_8.rect t)).emb (ix2 y0 y1) 1 = y1 := by
    apply Fin.ext; blk_simp [idx0_8]
  refine (pay6_at _ _ _ y0 y1).trans ?_
  rw [e0, e1]
  rw [blk0_5 V c t 0 y1]
  exact congrArg (fun z : EReal => clip (z + _)) (Finset.sum_congr rfl fun k _ => by rw [blk0_0 V c t y0 k, blk0_3 V c t y1 k])
theorem idx0_9 : ∀ t : Fin cfg0.N, win0_9.index t = ![t.val, 0] := (by decide +kernel : ∀ t : Fin grid0.N, _)
theorem arr0_9 : (dat0 V c).arrAt 9 cfg0.N = (fun i => ((∑ k : Fin 1024, @HMul.hMul EReal EReal EReal _ (V c main_v0 (ix2 (i 0) k)) (V c main_v4 (ix2 (i 1) k))) : EReal) : Vec Ideal S8192x256 .f32) := by
  refine (dat0 V c).arrAt_eq_of_covers 9 _ (by decide +kernel) fun t hf y => ?_
  blk_simp
  rw [after0_9, out0_9_eq]
  idx_vars y
  have ht := t.isLt; have hN := N0
  have e0 : ((View.whole main_v7_3).slice (win0_9.rect t)).emb (ix2 y0 y1) 0 = row0 t y0 := by
    apply Fin.ext; unfold row0; blk_simp [idx0_9]; rw [Nat.mul_comm]
  have e1 : ((View.whole main_v7_3).slice (win0_9.rect t)).emb (ix2 y0 y1) 1 = y1 := by
    apply Fin.ext; blk_simp [idx0_9]
  refine (pay2_at _ _ y0 y1).trans ?_
  rw [e0, e1]
  exact Finset.sum_congr rfl fun k _ => by rw [blk0_0 V c t y0 k, blk0_4 V c t y1 k]
theorem idx2_5 : ∀ t : Fin cfg2.N, win2_5.index t = ![t.val, 0] := (by decide +kernel : ∀ t : Fin grid2.N, _)
theorem arr2_5 : (dat2 V c).arrAt 5 cfg2.N = (fun i => outRow (fun k => V c main_v0 (ix2 (i 0) k)) (fun e k => V c main_arg10 (ix2 e k))
    (fun e => V c main_v93 (ix2 (i 0) e)) (fun e => V c main_v94 (ix2 0 e)) (fun e => V c main_arg9 (ix2 (i 1) e)) : Vec Ideal S8192x1024 .f32) := by
  refine (dat2 V c).arrAt_eq_of_covers 5 _ (by decide +kernel) fun t hf y => ?_
  blk_simp
  rw [after2_5, out2_5_eq]
  idx_vars y
  have ht := t.isLt; have hN := N2
  have e0 : ((View.whole main_v95).slice (win2_5.rect t)).emb (ix2 y0 y1) 0 = row2 t y0 := by
    apply Fin.ext; unfold row2; blk_simp [idx2_5]; rw [Nat.mul_comm]
  have e1 : ((View.whole main_v95).slice (win2_5.rect t)).emb (ix2 y0 y1) 1 = y1 := by
    apply Fin.ext; blk_simp [idx2_5]
  refine (pay21_at _ _ _ _ _ y0 y1).trans ?_
  rw [e0, e1]
  simp only [blk2_0 V c t, blk2_1 V c t, blk2_2 V c t, blk2_3 V c t, blk2_4 V c t]
end Cert.KI
-- ==== Proof.Spec.lean ====
module

public import proofs.«01_k».proof.Proof.Reg02Val
public import proofs.«01_k».proof.Pre_model_weights

@[expose] public section
set_option maxRecDepth 16384
noncomputable section

/-! The rows of the recurrence, of the argument arrays. -/

namespace Cert.KI
open Idealize.ShloMosaic

/-- What enters the recurrence: finite arrays as reals, and the two that need not be finite. -/
structure Data where
  X : Fin 2 → Fin 4096 → Fin 1024 → ℝ
  W : Fin 4416 → Fin 1024 → ℝ
  Wd : Fin 8 → Fin 64 → ℝ
  Cw : Fin 2048 → Fin 4 → ℝ
  Cb : Fin 2048 → ℝ
  bias : Fin 8 → EReal
  D : Fin 8 → Fin 256 → EReal

theorem clip_lo : ∃ r : ℝ, 0 ≤ r ∧ Ideal.ofBits FTy.f32 953267991#32 = (r : EReal) := by
  refine ⟨_, ?_, by simp [Ideal.ofBits, Ideal.ieee, -EReal.coe_mul]; rfl⟩
  positivity

theorem clip_nonneg (s : EReal) : 0 ≤ clip s := by
  obtain ⟨r, h0, hr⟩ := clip_lo
  unfold clip
  rw [hr]
  exact le_min zero_le_one (le_max_of_le_left (EReal.coe_nonneg.mpr h0))

theorem clip_le (s : EReal) : clip s ≤ 1 := by
  unfold clip; exact min_le_left _ _

theorem clip_coe (s : EReal) : clip s = ((clip s).toReal : EReal) := by
  refine (EReal.coe_toReal ?_ ?_).symm
  · intro h; have := clip_le s; rw [h, top_le_iff] at this; exact EReal.coe_ne_top 1 this
  · intro h; have := clip_nonneg s; rw [h] at this; exact absurd this (by simp)

namespace Data
variable (Δ : Data)

/-- The projection of a row of the input. -/
def proj (b : Fin 2) (l : Fin 4096) (e : Fin 4416) : ℝ := ∑ k, Δ.X b l k * Δ.W e k
/-- The step size before it is clipped. -/
def logit (b : Fin 2) (l : Fin 4096) (h : Fin 8) : EReal :=
  ((∑ r : Fin 64, Δ.proj b l ⟨4096 + r.val, by omega⟩ * Δ.Wd h r : ℝ) : EReal) + Δ.bias h

/-- The row of head `h` of sequence `b`. -/
def row (b : Fin 2) (h : Fin 8) : Row where
  raw m p := if hm : 3 ≤ m ∧ m < 4099 then Δ.proj b ⟨m - 3, by omega⟩ ⟨2048 + (256 * h.val + p.val), by omega⟩ else 0
  w q p := Δ.Cw (col h p) q
  cb p := Δ.Cb (col h p)
  d t := if ht : t < 4096 then (clip (Δ.logit b ⟨t, ht⟩ h)).toReal else 0
  dpos t := by split; exacts [EReal.toReal_nonneg (clip_nonneg _), le_rfl]
  B t n := if ht : t < 4096 then Δ.proj b ⟨t, ht⟩ ⟨4160 + (16 * h.val + n.val), by omega⟩ else 0
  C t n := if ht : t < 4096 then Δ.proj b ⟨t, ht⟩ ⟨4288 + (16 * h.val + n.val), by omega⟩ else 0
  D p := Δ.D h p
  z t p := if ht : t < 4096 then (Δ.proj b ⟨t, ht⟩ ⟨256 * h.val + p.val, by omega⟩ : ℝ) else 0

theorem row_raw (b : Fin 2) (h : Fin 8) (l : Fin 4096) (p : Fin 256) (e : Fin 4416) (he : e.val = 2048 + (256 * h.val + p.val)) :
    (Δ.row b h).raw (l.val + 3) p = Δ.proj b l e := by
  have := l.isLt
  unfold row; simp only
  rw [dif_pos (by omega)]
  congr 1; exact Fin.ext he.symm
theorem row_raw0 (b : Fin 2) (h : Fin 8) (t : ℕ) (p : Fin 256) (ht : t < 3) : (Δ.row b h).raw t p = 0 := by
  unfold row; simp only
  rw [dif_neg (by omega)]
theorem row_d (b : Fin 2) (h : Fin 8) (l : Fin 4096) : (((Δ.row b h).d l.val : ℝ) : EReal) = clip (Δ.logit b l h) := by
  unfold row; simp only
  rw [dif_pos l.isLt]; exact (clip_coe _).symm
theorem row_B (b : Fin 2) (h : Fin 8) (l : Fin 4096) (n : Fin 16) (e : Fin 4416) (he : e.val = 4160 + (16 * h.val + n.val)) :
    (Δ.row b h).B l.val n = Δ.proj b l e := by
  unfold row; simp only
  rw [dif_pos l.isLt]; congr 1; exact Fin.ext he.symm
theorem row_C (b : Fin 2) (h : Fin 8) (l : Fin 4096) (n : Fin 16) (e : Fin 4416) (he : e.val = 4288 + (16 * h.val + n.val)) :
    (Δ.row b h).C l.val n = Δ.proj b l e := by
  unfold row; simp only
  rw [dif_pos l.isLt]; congr 1; exact Fin.ext he.symm
theorem row_z (b : Fin 2) (h : Fin 8) (l : Fin 4096) (p : Fin 256) (e : Fin 4416) (he : e.val = 256 * h.val + p.val) :
    (Δ.row b h).z l.val p = (Δ.proj b l e : ℝ) := by
  unfold row; simp only
  rw [dif_pos l.isLt]; congr 2; exact Fin.ext he.symm
end Data

/-- The argument arrays are these data, and the decay exponents are the model's. -/
structure Of (Δ : Data) (a0 : FVec Ideal ⟨3, ![2, 4096, 1024]⟩ .f32) (a1 : FVec Ideal ⟨2, ![4416, 1024]⟩ .f32) (a2 : FVec Ideal ⟨2, ![8, 64]⟩ .f32)
    (a3 : FVec Ideal ⟨2, ![2048, 4]⟩ .f32) (a4 : FVec Ideal ⟨1, ![2048]⟩ .f32) (a5 : FVec Ideal ⟨2, ![8, 16]⟩ .f32)
    (a6 : FVec Ideal ⟨2, ![8, 256]⟩ .f32) (a7 : FVec Ideal ⟨1, ![8]⟩ .f32) : Prop where
  X : ∀ b l k, @Eq EReal (a0 (ix3 b l k)) (Δ.X b l k : ℝ)
  W : ∀ e k, @Eq EReal (a1 (ix2 e k)) (Δ.W e k : ℝ)
  Wd : ∀ h r, @Eq EReal (a2 (ix2 h r)) (Δ.Wd h r : ℝ)
  Cw : ∀ e q, @Eq EReal (a3 (ix2 e q)) (Δ.Cw e q : ℝ)
  Cb : ∀ e, @Eq EReal (a4 (ix1 e)) (Δ.Cb e : ℝ)
  A : ∀ h n, @Eq EReal (-Ideal.exp (a5 (ix2 h n))) ((-((n.val : ℝ) + 1) : ℝ) : EReal)
  D : ∀ h p, @Eq EReal (a6 (ix2 h p)) (Δ.D h p)
  bias : ∀ h, @Eq EReal (a7 (ix1 h)) (Δ.bias h)

/-- What the test of finiteness says. -/
theorem finite_of_test {x : EReal} (h : BitVec.ofBool (decide (FloatOps.absf (F := Ideal) (φ := .f32) x < Ideal.ofBits FTy.f32 2139095040#32)) = 1#1) :
    x = (x.toReal : EReal) := by
  have htop : Ideal.ofBits .f32 2139095040#32 = ⊤ := by simp [Ideal.ofBits, Ideal.ieee]
  have h' : FloatOps.absf (F := Ideal) (φ := .f32) x < Ideal.ofBits FTy.f32 2139095040#32 := by
    by_contra hn
    rw [decide_eq_false hn] at h
    exact absurd h (by decide)
  have h2 : max x (-x) < ⊤ := htop ▸ h'
  refine (EReal.coe_toReal (fun e => ?_) (fun e => ?_)).symm <;> · subst e; simp at h2

/-- What the test of the decay exponents says. -/
theorem decay_of_test {x : EReal} (n : Fin 16) (h : BitVec.ofBool (decide (x = Ideal.log (1 + FloatOps.sitofp (F := Ideal) FTy.f32 (BitVec.ofNat 32 n.val)))) = 1#1) :
    -Ideal.exp x = ((-((n.val : ℝ) + 1) : ℝ) : EReal) := by
  have h' : x = Ideal.log (1 + FloatOps.sitofp (F := Ideal) FTy.f32 (BitVec.ofNat 32 n.val)) := by
    by_contra hn
    rw [decide_eq_false hn] at h
    exact absurd h (by decide)
  have e1 : FloatOps.sitofp (F := Ideal) FTy.f32 (BitVec.ofNat 32 n.val) = (((n.val : ℝ)) : EReal) := by
    have e : (BitVec.ofNat 32 n.val).toInt = (n.val : Int) := by
      rw [BitVec.toInt_eq_toNat_of_lt] <;> simp [BitVec.toNat_ofNat] <;> omega
    show (((BitVec.ofNat 32 n.val).toInt : ℝ) : EReal) = _
    rw [e, Int.cast_natCast]
  have hp : (0 : ℝ) < 1 + (n.val : ℝ) := by positivity
  rw [h', e1, ← EReal.coe_one, ← EReal.coe_add, Ideal.log_coe, if_neg (not_le.mpr hp), Ideal.exp_coe, Real.exp_log hp, ← EReal.coe_neg, add_comm]

open Cert.Pre_model_weights in
theorem of_pre [Cert.Pre_model_weights.Facts] (a0 a1 a2 a3 a4 a5 a6 a7 a8 a9 a10)
    (h : (fn (F := Ideal) a0 a1 a2 a3 a4 a5 a6 a7 a8 a9 a10).1 = (fun _ => 1#1)
      ∧ (fn (F := Ideal) a0 a1 a2 a3 a4 a5 a6 a7 a8 a9 a10).2.1 = (fun _ => 1#1)
      ∧ (fn (F := Ideal) a0 a1 a2 a3 a4 a5 a6 a7 a8 a9 a10).2.2.1 = (fun _ => 1#1)
      ∧ (fn (F := Ideal) a0 a1 a2 a3 a4 a5 a6 a7 a8 a9 a10).2.2.2.1 = (fun _ => 1#1)
      ∧ (fn (F := Ideal) a0 a1 a2 a3 a4 a5 a6 a7 a8 a9 a10).2.2.2.2.1 = (fun _ => 1#1)
      ∧ (fn (F := Ideal) a0 a1 a2 a3 a4 a5 a6 a7 a8 a9 a10).2.2.2.2.2 = (fun _ => 1#1)) :
    ∃ Δ, Of Δ a0 a1 a2 a3 a4 a5 a6 a7 := by
  obtain ⟨hA, h0, h1, h2, h3, h4⟩ := h
  unfold fn fn_part1 at hA h0 h1 h2 h3 h4
  refine ⟨⟨fun b l k => (a0 (ix3 b l k) : EReal).toReal, fun e k => (a1 (ix2 e k) : EReal).toReal, fun h r => (a2 (ix2 h r) : EReal).toReal,
    fun e q => (a3 (ix2 e q) : EReal).toReal, fun e => (a4 (ix1 e) : EReal).toReal, fun h => a7 (ix1 h), fun h p => a6 (ix2 h p)⟩,
    ?_, ?_, ?_, ?_, ?_, ?_, fun _ _ => rfl, fun _ => rfl⟩
  · intro b l k; have := congrFun h0 (ix3 b l k); clear hA h0 h1 h2 h3 h4; revert this; pointwise; exact finite_of_test
  · intro e k; have := congrFun h1 (ix2 e k); clear hA h0 h1 h2 h3 h4; revert this; pointwise; exact finite_of_test
  · intro h r; have := congrFun h2 (ix2 h r); clear hA h0 h1 h2 h3 h4; revert this; pointwise; exact finite_of_test
  · intro e q; have := congrFun h3 (ix2 e q); clear hA h0 h1 h2 h3 h4; revert this; pointwise; exact finite_of_test
  · intro e; have := congrFun h4 (ix1 e); clear hA h0 h1 h2 h3 h4; revert this; pointwise; exact finite_of_test
  · intro h n; have := congrFun hA (ix2 h n); clear hA h0 h1 h2 h3 h4; revert this; pointwise; exact decay_of_test n
end Cert.KI
-- ==== Proof.HostVal.lean ====
module

public import proofs.«01_k».proof.Proof.Reg1Arr
public import proofs.«01_k».proof.Proof.Spec
public import Idealize.ShloMosaic.Lib.StableHlo.ReadAt

@[expose] public section
set_option maxRecDepth 16384
noncomputable section

/-! What the host stretches leave, at an index, of the buffers before them. -/

namespace Cert.KI
open Cert.KernelIdeal Cert.KernelIdeal.Gen
open Idealize.ShloMosaic Idealize.ShloMosaic.TcCoe Idealize.ShloMosaic.Tactic

variable (V : Valuation τ sig (Elt Ideal))

set_option maxHeartbeats 1000000

theorem col_eq (h : Fin 8) (p : Fin 256) : col h p = ⟨h.val * 256 + p.val, by omega⟩ := Fin.ext (by unfold col; simp only; omega)

theorem h0_v0 (b : Fin 2) (l : Fin 4096) (k : Fin 1024) : @Eq EReal (StableHlo.after hostOps0 V ↑main_v0 (ix2 (⟨b.val * 4096 + l.val, by omega⟩ : Fin 8192) k)) (V ↑main_arg0 (ix3 b l k)) := by
  after_reads_at
theorem h0_v1 (e : Fin 2048) (k : Fin 1024) : @Eq EReal (StableHlo.after hostOps0 V ↑main_v1 (ix2 e k)) (V ↑main_arg1 (ix2 (⟨e.val, by omega⟩ : Fin 4416) k)) := by
  after_reads_at
theorem h0_v2 (e : Fin 2048) (k : Fin 1024) : @Eq EReal (StableHlo.after hostOps0 V ↑main_v2 (ix2 e k)) (V ↑main_arg1 (ix2 (⟨2048 + e.val, by omega⟩ : Fin 4416) k)) := by
  after_reads_at
theorem h0_v4 (e : Fin 256) (k : Fin 1024) : @Eq EReal (StableHlo.after hostOps0 V ↑main_v4 (ix2 e k)) (V ↑main_arg1 (ix2 (⟨4160 + e.val, by omega⟩ : Fin 4416) k)) := by
  after_reads_at
theorem h0_v5 (h : Fin 8) (k : Fin 1024) : @Eq EReal (StableHlo.after hostOps0 V ↑main_v5 (ix2 h k))
    (∑ r : Fin 64, @HMul.hMul EReal EReal EReal _ (V ↑main_arg2 (ix2 h r)) (V ↑main_arg1 (ix2 (⟨4096 + r.val, by omega⟩ : Fin 4416) k))) := by
  after_reads_at
theorem h0_v6 (h : Fin 8) : @Eq EReal (StableHlo.after hostOps0 V ↑main_v6 (ix2 0 h)) (V ↑main_arg7 (ix1 h)) := by
  after_reads_at
theorem h1_v10 (b : Fin 2) (h : Fin 8) (n : Fin 16) (l : Fin 4096) : @Eq EReal (StableHlo.after hostOps1 V ↑main_v10 (ix4 b h n l))
    (V ↑main_v7_3 (ix2 (⟨b.val * 4096 + l.val, by omega⟩ : Fin 8192) (⟨h.val * 16 + n.val, by omega⟩ : Fin 256))) := by
  after_reads_at
theorem h1_v13 (b : Fin 2) (h : Fin 8) (n : Fin 16) (l : Fin 4096) : @Eq EReal (StableHlo.after hostOps1 V ↑main_v13 (ix4 b h l n))
    (V ↑main_v7_3 (ix2 (⟨b.val * 4096 + l.val, by omega⟩ : Fin 8192) (⟨128 + (h.val * 16 + n.val), by omega⟩ : Fin 256))) := by
  after_reads_at
theorem h1_v16 (h : Fin 8) (n : Fin 16) : @Eq EReal (StableHlo.after hostOps1 V ↑main_v16 (ix3 h 0 n)) (-Ideal.exp (V ↑main_arg5 (ix2 h n))) := by
  after_reads_at
theorem h1_v17 (h : Fin 8) (n : Fin 16) : @Eq EReal (StableHlo.after hostOps1 V ↑main_v17 (ix3 h n 0)) (-Ideal.exp (V ↑main_arg5 (ix2 h n))) := by
  after_reads_at
theorem h1_v19 (h : Fin 8) (q : Fin 4) (p : Fin 256) : @Eq EReal (StableHlo.after hostOps1 V ↑main_v19 (ix3 h q p)) (V ↑main_arg3 (ix2 (col h p) q)) := by
  rw [col_eq]; after_reads_at
theorem h1_v20 (h : Fin 8) (p : Fin 256) : @Eq EReal (StableHlo.after hostOps1 V ↑main_v20 (ix3 h 0 p)) (V ↑main_arg4 (ix1 (col h p))) := by
  rw [col_eq]; after_reads_at
theorem h1_v21 (b : Fin 2) (l : Fin 4096) (e : Fin 2048) : @Eq EReal (StableHlo.after hostOps1 V ↑main_v21 (ix3 b l e)) (V ↑main_v7_1 (ix2 (⟨b.val * 4096 + l.val, by omega⟩ : Fin 8192) e)) := by
  after_reads_at
theorem h1_v22 (b : Fin 2) (l : Fin 4096) (e : Fin 2048) : @Eq EReal (StableHlo.after hostOps1 V ↑main_v22 (ix3 b l e)) (V ↑main_v7_0 (ix2 (⟨b.val * 4096 + l.val, by omega⟩ : Fin 8192) e)) := by
  after_reads_at
theorem h1_v23 (b : Fin 2) (l : Fin 4096) (h : Fin 8) : @Eq EReal (StableHlo.after hostOps1 V ↑main_v23 (ix3 b l h)) (V ↑main_v7_2 (ix2 (⟨b.val * 4096 + l.val, by omega⟩ : Fin 8192) h)) := by
  after_reads_at
theorem h1_v24 (h : Fin 8) (p : Fin 256) : @Eq EReal (StableHlo.after hostOps1 V ↑main_v24 (ix3 h 0 p)) (V ↑main_arg6 (ix2 h p)) := by
  after_reads_at
theorem h2_v93 (b : Fin 2) (l : Fin 4096) (e : Fin 2048) : @Eq EReal (StableHlo.after hostOps2 V ↑main_v93 (ix2 (⟨b.val * 4096 + l.val, by omega⟩ : Fin 8192) e)) (V ↑main_v92 (ix3 b l e)) := by
  after_reads_at
theorem h2_v94 (e : Fin 2048) : @Eq EReal (StableHlo.after hostOps2 V ↑main_v94 (ix2 0 e)) (V ↑main_arg8 (ix1 e)) := by
  after_reads_at
theorem h3_v96 (b : Fin 2) (l : Fin 4096) (q : Fin 1024) : @Eq EReal (StableHlo.after hostOps3 V ↑main_v96 (ix3 b l q)) (V ↑main_v95 (ix2 (⟨b.val * 4096 + l.val, by omega⟩ : Fin 8192) q)) := by
  after_reads_at
/-- An entry of a shift matrix: one where the row's position, less the shift, is the column's. -/
theorem shift_entry (a s k j : ℕ) (ha : a < 128) (hs : s < 128) (hk : k ≤ 3) (hj : j ≤ 128) (P : Prop) [Decidable P] (hP : P ↔ s + k = a + j) :
    FloatOps.uitofp (F := Ideal) FTy.f32 (IntOp.cmpi CmpIPredicate.eq (BitVec.ofNat 32 s) (IntOp.addi (IntOp.subi (BitVec.ofNat 32 a) (BitVec.ofNat 32 k)) (BitVec.ofNat 32 j)))
      = if P then (1 : EReal) else 0 := by
  have e : (BitVec.ofNat 32 s = BitVec.ofNat 32 a - BitVec.ofNat 32 k + BitVec.ofNat 32 j) ↔ P := by
    rw [hP, ← BitVec.toNat_inj]
    simp only [BitVec.toNat_add, BitVec.toNat_sub, BitVec.toNat_ofNat]
    omega
  by_cases h : P
  · rw [if_pos h]
    have := e.mpr h
    show (((BitVec.ofBool (decide (BitVec.ofNat 32 s = BitVec.ofNat 32 a - BitVec.ofNat 32 k + BitVec.ofNat 32 j))).toNat : ℝ) : EReal) = 1
    rw [decide_eq_true this]; simp
  · rw [if_neg h]
    have : ¬ _ := fun x => h (e.mp x)
    show (((BitVec.ofBool (decide (BitVec.ofNat 32 s = BitVec.ofNat 32 a - BitVec.ofNat 32 k + BitVec.ofNat 32 j))).toNat : ℝ) : EReal) = 0
    rw [decide_eq_false this]; simp
theorem h1_s0 (m : Fin 384) (s : Fin 128) : @Eq EReal (StableHlo.after hostOps1 V ↑main_v91 (ix3 0 m s)) (if s.val + (m.val / 128 + 1) = m.val % 128 then (1 : EReal) else 0) := by
  have hm := m.isLt
  after_reads_at
  by_cases h1 : m.val < 128
  · rw [dif_pos h1]; after_reads_at
    exact shift_entry m.val s.val 1 0 h1 s.isLt (by omega) (by omega) _ (by omega)
  rw [dif_neg h1]
  by_cases h2 : m.val - 128 < 128
  · rw [dif_pos h2]; after_reads_at
    exact shift_entry (m.val - 128) s.val 2 0 h2 s.isLt (by omega) (by omega) _ (by omega)
  · rw [dif_neg h2]; after_reads_at
    exact shift_entry (m.val - 128 - 128) s.val 3 0 (by omega) s.isLt (by omega) (by omega) _ (by omega)
theorem h1_s1 (m : Fin 384) (s : Fin 128) : @Eq EReal (StableHlo.after hostOps1 V ↑main_v91 (ix3 1 m s)) (if s.val + (m.val / 128 + 1) = m.val % 128 + 128 then (1 : EReal) else 0) := by
  have hm := m.isLt
  after_reads_at
  by_cases h1 : m.val < 128
  · rw [dif_pos h1]; after_reads_at
    exact shift_entry m.val s.val 1 128 h1 s.isLt (by omega) (by omega) _ (by omega)
  rw [dif_neg h1]
  by_cases h2 : m.val - 128 < 128
  · rw [dif_pos h2]; after_reads_at
    exact shift_entry (m.val - 128) s.val 2 128 h2 s.isLt (by omega) (by omega) _ (by omega)
  · rw [dif_neg h2]; after_reads_at
    exact shift_entry (m.val - 128 - 128) s.val 3 128 (by omega) s.isLt (by omega) (by omega) _ (by omega)
end Cert.KI
-- ==== Proof.KerVal.lean ====
module

public import proofs.«01_k».proof.Proof.HostVal

@[expose] public section
set_option maxRecDepth 16384
noncomputable section

/-! The kernel's result in closed form: the host stretches and the three regions, one after another. -/

namespace Cert.KI
open Cert.KernelIdeal Cert.KernelIdeal.Gen
open Idealize.ShloMosaic Idealize.ShloMosaic.TcCoe Idealize.ShloMosaic.Tactic

/-- A sum of products of finite values is the sum over the reals. -/
theorem sum_mul_coe {n : ℕ} {f g : Fin n → EReal} {x y : Fin n → ℝ} (hf : ∀ k, f k = (x k : EReal)) (hg : ∀ k, g k = (y k : EReal)) :
    ∑ k, f k * g k = ((∑ k, x k * y k : ℝ) : EReal) := by
  rw [coe_sum']
  exact Finset.sum_congr rfl fun k _ => by rw [hf, hg, EReal.coe_mul]

variable (m : (ℓ : Loc nD τ sig) → Buf (Elt Ideal) ℓ) (ρ : Dev nD → PrngReg) (c : Dev nD)

/-- The arguments on device `c` are the data. -/
abbrev OfM (Δ : Data) : Prop :=
  Of Δ (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-- Row `l` of sequence `b` in the flattened arrays. -/
abbrev frow (b : Fin 2) (l : Fin 4096) : Fin 8192 := ⟨b.val * 4096 + l.val, by omega⟩

variable {m c} {Δ : Data} (H : OfM m c Δ)
include H

theorem v1_x (b : Fin 2) (l : Fin 4096) (k : Fin 1024) : @Eq EReal (V1 m ρ c main_v0 (ix2 (frow b l) k)) (Δ.X b l k : ℝ) :=
  (h0_v0 (W0 m ρ c) b l k).trans (H.X b l k)

theorem w2_z (b : Fin 2) (l : Fin 4096) (e : Fin 2048) : @Eq EReal (W2 m ρ c main_v7_0 (ix2 (frow b l) e)) (Δ.proj b l ⟨e.val, by omega⟩ : ℝ) :=
  (congrFun (W2_arr m ρ c 6) (ix2 (frow b l) e)).trans ((congrFun (arr0_6 (V1 m ρ) c) (ix2 (frow b l) e)).trans
    (sum_mul_coe (fun k => v1_x ρ H b l k) fun k => (h0_v1 (W0 m ρ c) e k).trans (H.W _ k)))

theorem w2_u (b : Fin 2) (l : Fin 4096) (e : Fin 2048) : @Eq EReal (W2 m ρ c main_v7_1 (ix2 (frow b l) e)) (Δ.proj b l ⟨2048 + e.val, by omega⟩ : ℝ) :=
  (congrFun (W2_arr m ρ c 7) (ix2 (frow b l) e)).trans ((congrFun (arr0_7 (V1 m ρ) c) (ix2 (frow b l) e)).trans
    (sum_mul_coe (fun k => v1_x ρ H b l k) fun k => (h0_v2 (W0 m ρ c) e k).trans (H.W _ k)))

theorem w2_bc (b : Fin 2) (l : Fin 4096) (e : Fin 256) : @Eq EReal (W2 m ρ c main_v7_3 (ix2 (frow b l) e)) (Δ.proj b l ⟨4160 + e.val, by omega⟩ : ℝ) :=
  (congrFun (W2_arr m ρ c 9) (ix2 (frow b l) e)).trans ((congrFun (arr0_9 (V1 m ρ) c) (ix2 (frow b l) e)).trans
    (sum_mul_coe (fun k => v1_x ρ H b l k) fun k => (h0_v4 (W0 m ρ c) e k).trans (H.W _ k)))

/-- The two projections of the step size, in the kernel's order and in the reference's. -/
theorem logit_swap (b : Fin 2) (l : Fin 4096) (h : Fin 8) :
    ∑ k, Δ.X b l k * ∑ r : Fin 64, Δ.Wd h r * Δ.W ⟨4096 + r.val, by omega⟩ k = ∑ r : Fin 64, Δ.proj b l ⟨4096 + r.val, by omega⟩ * Δ.Wd h r := by
  unfold Data.proj
  simp only [Finset.mul_sum, Finset.sum_mul]
  rw [Finset.sum_comm]
  exact Finset.sum_congr rfl fun r _ => Finset.sum_congr rfl fun k _ => by ring

theorem w2_d (b : Fin 2) (l : Fin 4096) (h : Fin 8) : @Eq EReal (W2 m ρ c main_v7_2 (ix2 (frow b l) h)) (clip (Δ.logit b l h)) := by
  refine (congrFun (W2_arr m ρ c 8) (ix2 (frow b l) h)).trans ((congrFun (arr0_8 (V1 m ρ) c) (ix2 (frow b l) h)).trans (congrArg clip ?_))
  unfold Data.logit
  refine congrArg₂ (fun a b : EReal => a + b) ?_ ((h0_v6 (W0 m ρ c) h).trans (H.bias h))
  refine (sum_mul_coe (fun k => v1_x ρ H b l k) fun k => (h0_v5 (W0 m ρ c) h k).trans
    (sum_mul_coe (fun r => H.Wd h r) fun r => H.W ⟨4096 + r.val, by omega⟩ k)).trans ?_
  exact congrArg (fun r : ℝ => (r : EReal)) (logit_swap H b l h)

/-- What the recurrence's region reads. -/
theorem arr1_in : Arr1 (V3 m ρ) c Δ.row where
  raw0 b h t p ht := Δ.row_raw0 b h t p ht
  u b l h p := (h1_v21 (W2 m ρ c) b l (col h p)).trans ((w2_u ρ H b l (col h p)).trans (congrArg (fun r : ℝ => (r : EReal)) (Δ.row_raw b h l p _ rfl).symm))
  z b l h p := (h1_v22 (W2 m ρ c) b l (col h p)).trans ((w2_z ρ H b l (col h p)).trans (Δ.row_z b h l p _ rfl).symm)
  d b l h := (h1_v23 (W2 m ρ c) b l h).trans ((w2_d ρ H b l h).trans (Δ.row_d b h l).symm)
  B b h n l := (h1_v10 (W2 m ρ c) b h n l).trans ((w2_bc ρ H b l _).trans (congrArg (fun r : ℝ => (r : EReal))
    (Δ.row_B b h l n _ (by show 4160 + (h.val * 16 + n.val) = 4160 + (16 * h.val + n.val); omega)).symm))
  C b h l n := (h1_v13 (W2 m ρ c) b h n l).trans ((w2_bc ρ H b l _).trans (congrArg (fun r : ℝ => (r : EReal))
    (Δ.row_C b h l n _ (by show 4160 + (128 + (h.val * 16 + n.val)) = 4288 + (16 * h.val + n.val); omega)).symm))
  ar h n := (h1_v16 (W2 m ρ c) h n).trans ((congrArg (fun v : FVec Ideal S8x16 .f32 => (-Ideal.exp (v (ix2 h n)) : EReal)) (W2_args m ρ c main_arg5 (by simp))).trans (H.A h n))
  ac h n := (h1_v17 (W2 m ρ c) h n).trans ((congrArg (fun v : FVec Ideal S8x16 .f32 => (-Ideal.exp (v (ix2 h n)) : EReal)) (W2_args m ρ c main_arg5 (by simp))).trans (H.A h n))
  w b h q p := (h1_v19 (W2 m ρ c) h q p).trans ((congrFun (W2_args m ρ c main_arg3 (by simp)) _).trans (H.Cw _ _))
  cb b h p := (h1_v20 (W2 m ρ c) h p).trans ((congrFun (W2_args m ρ c main_arg4 (by simp)) _).trans (H.Cb _))
  D b h p := (h1_v24 (W2 m ρ c) h p).trans ((congrFun (W2_args m ρ c main_arg6 (by simp)) _).trans (H.D _ _))
  s0 := h1_s0 (W2 m ρ c)
  s1 := h1_s1 (W2 m ρ c)

omit H in
theorem v5_x (b : Fin 2) (l : Fin 4096) (k : Fin 1024) : @Eq EReal (V5 m ρ c main_v0 (ix2 (frow b l) k)) (m ((c : Thread nD τ).loc main_arg0) (ix3 b l k)) := by
  have e5 : W5 m ρ c main_v0 = W4 m ρ c main_v0 := W5_of m ρ c main_v0 (by decide +kernel)
  have e4 : W4 m ρ c main_v0 = W3 m ρ c main_v0 := W4_of m ρ c main_v0 (by decide +kernel)
  have e3 : W3 m ρ c main_v0 = W2 m ρ c main_v0 := W3_of m ρ c main_v0 (by decide +kernel)
  have e2 : W2 m ρ c main_v0 = W1 m ρ c main_v0 := W2_of m ρ c main_v0 (by decide +kernel)
  exact (congrFun (e5.trans (e4.trans (e3.trans e2))) _).trans (h0_v0 (W0 m ρ c) b l k)

/-- What the recurrence's region leaves. -/
theorem v5_g (b : Fin 2) (l : Fin 4096) (e : Fin 2048) :
    @Eq EReal (V5 m ρ c main_v93 (ix2 (frow b l) e)) ((Δ.row b ⟨e.val / 256, by omega⟩).out l.val ⟨e.val % 256, by omega⟩) :=
  (h2_v93 (W4 m ρ c) b l e).trans ((congrFun (W4_arr m ρ c 11) (ix3 b l e)).trans ((congrFun (arr1 (V3 m ρ) c (arr1_in ρ H)) (ix3 b l e)).trans
    (G1_at (ix3 b l e) b ⟨e.val / 256, by omega⟩ l.val ⟨e.val % 256, by omega⟩ rfl rfl (by show e.val = 256 * (e.val / 256) + e.val % 256; omega))))

/-- The kernel's result, at an index. -/
theorem kernel_val (b : Fin 2) (l : Fin 4096) (q : Fin 1024) :
    @Eq EReal (W7 m ρ c main_v96 (ix3 b l q)) (outRow (fun k => m ((c : Thread nD τ).loc main_arg0) (ix3 b l k)) (fun e k => m ((c : Thread nD τ).loc main_arg10) (ix2 e k))
      (fun e => (Δ.row b ⟨e.val / 256, by omega⟩).out l.val ⟨e.val % 256, by omega⟩) (fun e => m ((c : Thread nD τ).loc main_arg8) (ix1 e)) (fun e => m ((c : Thread nD τ).loc main_arg9) (ix2 q e))) := by
  refine (h3_v96 (W6 m ρ c) b l q).trans ((congrFun (W6_arr m ρ c 5) (ix2 (frow b l) q)).trans ((congrFun (arr2_5 (V5 m ρ) c) (ix2 (frow b l) q)).trans ?_))
  have e10 : W5 m ρ c main_arg10 = m ((c : Thread nD τ).loc main_arg10) := (W5_of m ρ c main_arg10 (by decide +kernel)).trans (W4_args m ρ c main_arg10 (by simp))
  have e9 : W5 m ρ c main_arg9 = m ((c : Thread nD τ).loc main_arg9) := (W5_of m ρ c main_arg9 (by decide +kernel)).trans (W4_args m ρ c main_arg9 (by simp))
  have e8 : W4 m ρ c main_arg8 = m ((c : Thread nD τ).loc main_arg8) := W4_args m ρ c main_arg8 (by simp)
  have h0 : (fun k => V5 m ρ c main_v0 (ix2 (frow b l) k) : Fin 1024 → EReal) = fun k => m ((c : Thread nD τ).loc main_arg0) (ix3 b l k) := funext fun k => v5_x ρ b l k
  have h1 : (fun e k => V5 m ρ c main_arg10 (ix2 e k) : Fin 2048 → Fin 1024 → EReal) = fun e k => m ((c : Thread nD τ).loc main_arg10) (ix2 e k) :=
    funext fun e => funext fun k => congrFun e10 _
  have h2 := funext fun e => v5_g ρ H b l e
  have h3 : (fun e => V5 m ρ c main_v94 (ix2 0 e) : Fin 2048 → EReal) = fun e => m ((c : Thread nD τ).loc main_arg8) (ix1 e) :=
    funext fun e => (h2_v94 (W4 m ρ c) e).trans (congrFun e8 _)
  have h4 : (fun e => V5 m ρ c main_arg9 (ix2 q e) : Fin 2048 → EReal) = fun e => m ((c : Thread nD τ).loc main_arg9) (ix2 q e) := funext fun e => congrFun e9 _
  exact (congrArg (fun f => outRow f _ _ _ _) h0).trans ((congrArg (fun f => outRow _ f _ _ _) h1).trans ((congrArg (fun f => outRow _ _ f _ _) h2).trans
    ((congrArg (fun f => outRow _ _ _ f _) h3).trans (congrArg (fun f => outRow _ _ _ _ f) h4))))
end Cert.KI
-- ==== Proof.RefVal.lean ====
module

public import proofs.«01_k».proof.Proof.Spec
public import proofs.«01_k».proof.Proof.RefRun

@[expose] public section
set_option maxRecDepth 16384
noncomputable section

/-! The reference's loop in closed form: the rows' states and outputs. -/

namespace Cert.RefVal
open Cert.ReferenceIdeal Cert.ReferenceIdeal.Gen Cert.ReferenceIdeal.Step Cert.KI
open Idealize.ShloMosaic Idealize.ShloMosaic.TcCoe

theorem toInt_small {j : ℕ} (hj : j < 4096) : (BitVec.ofNat 32 j).toInt = j := by
  rw [BitVec.toInt_eq_toNat_of_lt] <;> simp [BitVec.toNat_ofNat] <;> omega

theorem csA_0 {j : ℕ} (hj : j < 4096) (hr) : Host.clampedStart S4096x2x8x256 S1x2x8x256 hr (fun k => BitVec.toInt ((![constantI S_ 32 (BitVec.ofNat 32 j), constantI S_ 32 0#32, constantI S_ 32 0#32, constantI S_ 32 0#32] : Fin 4 → (⟨S_, .i32⟩ : BufTy).Contents (Elt Ideal)) k (Shape.Idx.first h_S_))) 0 = j :=
  Host.clampedStart_of_le _ _ _ _ (toInt_small hj) (by show j + 1 ≤ 4096; omega)
theorem csA_1 {j : ℕ} (hj : j < 4096) (hr) : Host.clampedStart S4096x2x8x256 S1x2x8x256 hr (fun k => BitVec.toInt ((![constantI S_ 32 (BitVec.ofNat 32 j), constantI S_ 32 0#32, constantI S_ 32 0#32, constantI S_ 32 0#32] : Fin 4 → (⟨S_, .i32⟩ : BufTy).Contents (Elt Ideal)) k (Shape.Idx.first h_S_))) 1 = 0 :=
  Host.clampedStart_of_le _ _ _ _ rfl (by show 0 + 2 ≤ 2; omega)
theorem csA_2 {j : ℕ} (hj : j < 4096) (hr) : Host.clampedStart S4096x2x8x256 S1x2x8x256 hr (fun k => BitVec.toInt ((![constantI S_ 32 (BitVec.ofNat 32 j), constantI S_ 32 0#32, constantI S_ 32 0#32, constantI S_ 32 0#32] : Fin 4 → (⟨S_, .i32⟩ : BufTy).Contents (Elt Ideal)) k (Shape.Idx.first h_S_))) 2 = 0 :=
  Host.clampedStart_of_le _ _ _ _ rfl (by show 0 + 8 ≤ 8; omega)
theorem csA_3 {j : ℕ} (hj : j < 4096) (hr) : Host.clampedStart S4096x2x8x256 S1x2x8x256 hr (fun k => BitVec.toInt ((![constantI S_ 32 (BitVec.ofNat 32 j), constantI S_ 32 0#32, constantI S_ 32 0#32, constantI S_ 32 0#32] : Fin 4 → (⟨S_, .i32⟩ : BufTy).Contents (Elt Ideal)) k (Shape.Idx.first h_S_))) 3 = 0 :=
  Host.clampedStart_of_le _ _ _ _ rfl (by show 0 + 256 ≤ 256; omega)
theorem csB_0 {j : ℕ} (hj : j < 4096) (hr) : Host.clampedStart S4096x2x8x16 S1x2x8x16 hr (fun k => BitVec.toInt ((![constantI S_ 32 (BitVec.ofNat 32 j), constantI S_ 32 0#32, constantI S_ 32 0#32, constantI S_ 32 0#32] : Fin 4 → (⟨S_, .i32⟩ : BufTy).Contents (Elt Ideal)) k (Shape.Idx.first h_S_))) 0 = j :=
  Host.clampedStart_of_le _ _ _ _ (toInt_small hj) (by show j + 1 ≤ 4096; omega)
theorem csB_1 {j : ℕ} (hj : j < 4096) (hr) : Host.clampedStart S4096x2x8x16 S1x2x8x16 hr (fun k => BitVec.toInt ((![constantI S_ 32 (BitVec.ofNat 32 j), constantI S_ 32 0#32, constantI S_ 32 0#32, constantI S_ 32 0#32] : Fin 4 → (⟨S_, .i32⟩ : BufTy).Contents (Elt Ideal)) k (Shape.Idx.first h_S_))) 1 = 0 :=
  Host.clampedStart_of_le _ _ _ _ rfl (by show 0 + 2 ≤ 2; omega)
theorem csB_2 {j : ℕ} (hj : j < 4096) (hr) : Host.clampedStart S4096x2x8x16 S1x2x8x16 hr (fun k => BitVec.toInt ((![constantI S_ 32 (BitVec.ofNat 32 j), constantI S_ 32 0#32, constantI S_ 32 0#32, constantI S_ 32 0#32] : Fin 4 → (⟨S_, .i32⟩ : BufTy).Contents (Elt Ideal)) k (Shape.Idx.first h_S_))) 2 = 0 :=
  Host.clampedStart_of_le _ _ _ _ rfl (by show 0 + 8 ≤ 8; omega)
theorem csB_3 {j : ℕ} (hj : j < 4096) (hr) : Host.clampedStart S4096x2x8x16 S1x2x8x16 hr (fun k => BitVec.toInt ((![constantI S_ 32 (BitVec.ofNat 32 j), constantI S_ 32 0#32, constantI S_ 32 0#32, constantI S_ 32 0#32] : Fin 4 → (⟨S_, .i32⟩ : BufTy).Contents (Elt Ideal)) k (Shape.Idx.first h_S_))) 3 = 0 :=
  Host.clampedStart_of_le _ _ _ _ rfl (by show 0 + 16 ≤ 16; omega)
theorem csC_0 {j : ℕ} (hj : j < 4096) (hr) : Host.clampedStart S4096x2x8 S1x2x8 hr (fun k => BitVec.toInt ((![constantI S_ 32 (BitVec.ofNat 32 j), constantI S_ 32 0#32, constantI S_ 32 0#32] : Fin 3 → (⟨S_, .i32⟩ : BufTy).Contents (Elt Ideal)) k (Shape.Idx.first h_S_))) 0 = j :=
  Host.clampedStart_of_le _ _ _ _ (toInt_small hj) (by show j + 1 ≤ 4096; omega)
theorem csC_1 {j : ℕ} (hj : j < 4096) (hr) : Host.clampedStart S4096x2x8 S1x2x8 hr (fun k => BitVec.toInt ((![constantI S_ 32 (BitVec.ofNat 32 j), constantI S_ 32 0#32, constantI S_ 32 0#32] : Fin 3 → (⟨S_, .i32⟩ : BufTy).Contents (Elt Ideal)) k (Shape.Idx.first h_S_))) 1 = 0 :=
  Host.clampedStart_of_le _ _ _ _ rfl (by show 0 + 2 ≤ 2; omega)
theorem csC_2 {j : ℕ} (hj : j < 4096) (hr) : Host.clampedStart S4096x2x8 S1x2x8 hr (fun k => BitVec.toInt ((![constantI S_ 32 (BitVec.ofNat 32 j), constantI S_ 32 0#32, constantI S_ 32 0#32] : Fin 3 → (⟨S_, .i32⟩ : BufTy).Contents (Elt Ideal)) k (Shape.Idx.first h_S_))) 2 = 0 :=
  Host.clampedStart_of_le _ _ _ _ rfl (by show 0 + 8 ≤ 8; omega)
theorem b4_at (j : ℕ) (hj : j < 4096) (s : State Ideal) (b : Fin 2) (h : Fin 8) (p : Fin 256) :
    @Eq EReal (b4 j s (ix3 b h p)) (s.main_v60_0 (ix4 ⟨j, hj⟩ b h p)) := by
  unfold b4 b3 b2 b1 b0; pointwise
  simp only [csA_0 hj, csA_1 hj, csA_2 hj, csA_3 hj, csB_0 hj, csB_1 hj, csB_2 hj, csB_3 hj, csC_0 hj, csC_1 hj, csC_2 hj, Nat.zero_add, Nat.add_zero]
theorem b9_at (j : ℕ) (hj : j < 4096) (s : State Ideal) (b : Fin 2) (h : Fin 8) (p : Fin 256) :
    @Eq EReal (b9 j s (ix3 b h p)) (s.main_v60_1 (ix4 ⟨j, hj⟩ b h p)) := by
  unfold b9 b8 b7 b6 b5; pointwise
  simp only [csA_0 hj, csA_1 hj, csA_2 hj, csA_3 hj, csB_0 hj, csB_1 hj, csB_2 hj, csB_3 hj, csC_0 hj, csC_1 hj, csC_2 hj, Nat.zero_add, Nat.add_zero]
theorem b13_at (j : ℕ) (hj : j < 4096) (s : State Ideal) (b : Fin 2) (h : Fin 8) :
    @Eq EReal (b13 j s (ix2 b h)) (s.main_v60_2 (ix3 ⟨j, hj⟩ b h)) := by
  unfold b13 b12 b11 b10; pointwise
  simp only [csA_0 hj, csA_1 hj, csA_2 hj, csA_3 hj, csB_0 hj, csB_1 hj, csB_2 hj, csB_3 hj, csC_0 hj, csC_1 hj, csC_2 hj, Nat.zero_add, Nat.add_zero]
theorem b18_at (j : ℕ) (hj : j < 4096) (s : State Ideal) (b : Fin 2) (h : Fin 8) (n : Fin 16) :
    @Eq EReal (b18 j s (ix3 b h n)) (s.main_v60_3 (ix4 ⟨j, hj⟩ b h n)) := by
  unfold b18 b17 b16 b15 b14; pointwise
  simp only [csA_0 hj, csA_1 hj, csA_2 hj, csA_3 hj, csB_0 hj, csB_1 hj, csB_2 hj, csB_3 hj, csC_0 hj, csC_1 hj, csC_2 hj, Nat.zero_add, Nat.add_zero]
theorem b23_at (j : ℕ) (hj : j < 4096) (s : State Ideal) (b : Fin 2) (h : Fin 8) (n : Fin 16) :
    @Eq EReal (b23 j s (ix3 b h n)) (s.main_v60_4 (ix4 ⟨j, hj⟩ b h n)) := by
  unfold b23 b22 b21 b20 b19; pointwise
  simp only [csA_0 hj, csA_1 hj, csA_2 hj, csA_3 hj, csB_0 hj, csB_1 hj, csB_2 hj, csB_3 hj, csC_0 hj, csC_1 hj, csC_2 hj, Nat.zero_add, Nat.add_zero]

theorem b41_at (j : ℕ) (s : State Ideal) (b : Fin 2) (h : Fin 8) (p : Fin 256) (n : Fin 16) :
    @Eq EReal (b41 j s (ix4 b h p n)) ((s.main_v60_8 (ix4 b h p n) : EReal) * Ideal.exp ((b13 j s (ix2 b h) : EReal) * (s.main_v60_5 (ix2 h n) : EReal)) +
      (b13 j s (ix2 b h) : EReal) * (b4 j s (ix3 b h p) : EReal) * (b18 j s (ix3 b h n) : EReal)) := by
  unfold b41 b40 b39 b38 b37 b36 b35 b34 b33 b32 b31 b30 b29 b28 b27 b26 b25 b24; pointwise

theorem b56_at (j : ℕ) (s : State Ideal) (b : Fin 2) (h : Fin 8) (p : Fin 256) :
    @Eq EReal (b56 j s (ix3 b h p)) (((∑ n : Fin 16, (b41 j s (ix4 b h p n) : EReal) * (b23 j s (ix3 b h n) : EReal)) + (s.main_v60_6 (ix2 h p) : EReal) * (b4 j s (ix3 b h p) : EReal)) *
      ((b9 j s (ix3 b h p) : EReal) * Ideal.logistic (b9 j s (ix3 b h p)))) := by
  unfold b56 b55 b54 b53 b52 b51 b50 b49 b48 b47 b46 b45 b44 b43 b42 Ideal.logistic; pointwise

theorem b61_at (j : ℕ) (hj : j < 4096) (s : State Ideal) (t : Fin 4096) (b : Fin 2) (h : Fin 8) (p : Fin 256) :
    @Eq EReal (b61 j s (ix4 t b h p)) (if t.val = j then b56 j s (ix3 b h p) else s.main_v60_9 (ix4 t b h p)) := by
  unfold b61 b60 b59 b58 b57; pointwise
  simp only [csA_0 hj, csA_1 hj, csA_2 hj, csA_3 hj, csB_0 hj, csB_1 hj, csB_2 hj, csB_3 hj, csC_0 hj, csC_1 hj, csC_2 hj, Nat.zero_add, Nat.add_zero, Nat.zero_le, and_true, Nat.sub_zero]
  by_cases e : t.val = j
  · rw [if_pos e, dif_pos (by omega)]
  · rw [if_neg e, dif_neg (by omega)]

/-- The state before trip `k` holds the rows' values. -/
structure Inv (R : Fin 2 → Fin 8 → Row) (k : ℕ) (s : State Ideal) : Prop where
  u : ∀ (t : Fin 4096) b h p, @Eq EReal (s.main_v60_0 (ix4 t b h p)) ((R b h).u t.val p : ℝ)
  z : ∀ (t : Fin 4096) b h p, @Eq EReal (s.main_v60_1 (ix4 t b h p)) ((R b h).z t.val p)
  d : ∀ (t : Fin 4096) b h, @Eq EReal (s.main_v60_2 (ix3 t b h)) ((R b h).d t.val : ℝ)
  B : ∀ (t : Fin 4096) b h n, @Eq EReal (s.main_v60_3 (ix4 t b h n)) ((R b h).B t.val n : ℝ)
  C : ∀ (t : Fin 4096) b h n, @Eq EReal (s.main_v60_4 (ix4 t b h n)) ((R b h).C t.val n : ℝ)
  A : ∀ h (n : Fin 16), @Eq EReal (s.main_v60_5 (ix2 h n)) ((-((n.val : ℝ) + 1) : ℝ) : EReal)
  D : ∀ b h p, @Eq EReal (s.main_v60_6 (ix2 h p)) ((R b h).D p)
  st : ∀ b h p n, @Eq EReal (s.main_v60_8 (ix4 b h p n)) ((R b h).st n p k : ℝ)
  out : ∀ (t : Fin 4096) b h p, t.val < k → @Eq EReal (s.main_v60_9 (ix4 t b h p)) ((R b h).out t.val p)

theorem inv_step {R : Fin 2 → Fin 8 → Row} {k : ℕ} {s : State Ideal} (hk : k < 4096) (H : Inv R k s) : Inv R (k + 1) (step k s) := by
  have est : ∀ b h p n, @Eq EReal (b41 k s (ix4 b h p n)) ((R b h).st n p (k + 1) : ℝ) := by
    intro b h p n
    rw [b41_at, b13_at k hk, b4_at k hk, b18_at k hk, H.st, H.A, H.d, H.u, H.B, ← EReal.coe_mul, Ideal.exp_coe, ← EReal.coe_mul, ← EReal.coe_mul, ← EReal.coe_mul, ← EReal.coe_add]
    rfl
  refine ⟨H.u, H.z, H.d, H.B, H.C, H.A, H.D, est, ?_⟩
  intro t b h p ht
  refine (b61_at k hk s t b h p).trans ?_
  by_cases e : t.val = k
  · rw [if_pos e, b56_at, b9_at k hk, b4_at k hk, H.u, H.z, H.D b]
    unfold Row.out Row.y
    rw [coe_sum', e]
    refine congrArg (fun y : EReal => (y + _) * _) (Finset.sum_congr rfl fun n _ => ?_)
    rw [est, b23_at k hk, H.C, ← EReal.coe_mul]
  · rw [if_neg e]
    exact H.out t b h p (by omega)

theorem inv_iter {R : Fin 2 → Fin 8 → Row} (it : ℕ → State Ideal) (h0 : Inv R 0 (it 0)) (hs : ∀ n, it (n + 1) = step n (it n)) :
    ∀ k ≤ 4096, Inv R k (it k)
  | 0, _ => h0
  | k + 1, hk => by
    rw [hs k]
    exact inv_step (by omega) (inv_iter it h0 hs k (by omega))

theorem R_at (s : State Ideal) (a0 a8 a9 a10) (b : Fin 2) (l : Fin 4096) (q : Fin 1024) :
    @Eq EReal (R_main_v80 s a0 a8 a9 a10 (ix3 b l q)) (outRow (fun k => a0 (ix3 b l k)) (fun e k => a10 (ix2 e k))
      (fun e => s.main_v60_9 (ix4 l b ⟨e.val / 256, by omega⟩ ⟨e.val % 256, by omega⟩)) (fun e => a8 (ix1 e)) (fun e => a9 (ix2 q e))) := by
  unfold R_main_v80 outRow; pointwise

variable (a0 : (⟨S2x4096x1024, .f32⟩ : BufTy).Contents (Elt Ideal)) (a1 : (⟨S4416x1024, .f32⟩ : BufTy).Contents (Elt Ideal)) (a2 : (⟨S8x64, .f32⟩ : BufTy).Contents (Elt Ideal)) (a3 : (⟨S2048x4, .f32⟩ : BufTy).Contents (Elt Ideal)) (a4 : (⟨S2048, .f32⟩ : BufTy).Contents (Elt Ideal)) (a5 : (⟨S8x16, .f32⟩ : BufTy).Contents (Elt Ideal)) (a6 : (⟨S8x256, .f32⟩ : BufTy).Contents (Elt Ideal)) (a7 : (⟨S8, .f32⟩ : BufTy).Contents (Elt Ideal))

theorem A1_at (b : Fin 2) (l : Fin 4096) (e : Fin 4416) :
    @Eq EReal (A_main_v1 a0 a1 a2 a3 a4 a5 a7 (ix3 b l e)) (∑ k : Fin 1024, (a0 (ix3 b l k) : EReal) * (a1 (ix2 e k) : EReal)) := by
  unfold A_main_v1 A_main_v0; pointwise
theorem A55_at (t : Fin 4096) (b : Fin 2) (h : Fin 8) (p : Fin 256) :
    @Eq EReal (A_main_v55 a0 a1 a2 a3 a4 a5 a7 (ix4 t b h p)) (A_main_v1 a0 a1 a2 a3 a4 a5 a7 (ix3 b t ⟨h.val * 256 + p.val, by omega⟩)) := by
  unfold A_main_v55 A_main_v52 A_main_v2; pointwise
theorem A57_at (t : Fin 4096) (b : Fin 2) (h : Fin 8) (n : Fin 16) :
    @Eq EReal (A_main_v57 a0 a1 a2 a3 a4 a5 a7 (ix4 t b h n)) (A_main_v1 a0 a1 a2 a3 a4 a5 a7 (ix3 b t ⟨4160 + (h.val * 16 + n.val), by omega⟩)) := by
  unfold A_main_v57 A_main_v7 A_main_v5; pointwise
theorem A58_at (t : Fin 4096) (b : Fin 2) (h : Fin 8) (n : Fin 16) :
    @Eq EReal (A_main_v58 a0 a1 a2 a3 a4 a5 a7 (ix4 t b h n)) (A_main_v1 a0 a1 a2 a3 a4 a5 a7 (ix3 b t ⟨4288 + (h.val * 16 + n.val), by omega⟩)) := by
  unfold A_main_v58 A_main_v8 A_main_v6; pointwise
theorem A50_at (h : Fin 8) (n : Fin 16) :
    @Eq EReal (A_main_v50 a0 a1 a2 a3 a4 a5 a7 (ix2 h n)) (-Ideal.exp (a5 (ix2 h n))) := by
  unfold A_main_v50 A_main_v49; pointwise
theorem A56_at (t : Fin 4096) (b : Fin 2) (h : Fin 8) :
    @Eq EReal (A_main_v56 a0 a1 a2 a3 a4 a5 a7 (ix3 t b h)) (clip ((∑ r : Fin 64, (A_main_v1 a0 a1 a2 a3 a4 a5 a7 (ix3 b t ⟨4096 + r.val, by omega⟩) : EReal) * (a2 (ix2 h r) : EReal)) + (a7 (ix1 h) : EReal))) := by
  have e : ∀ (x : Fin 2) (y : Fin 4096) (z : Fin 8), @Eq EReal (A_main_v46 a0 a1 a2 a3 a4 a5 a7 (ix3 x y z)) ((∑ r : Fin 64, (A_main_v1 a0 a1 a2 a3 a4 a5 a7 (ix3 x y ⟨4096 + r.val, by omega⟩) : EReal) * (a2 (ix2 z r) : EReal)) + (a7 (ix1 z) : EReal)) := by
    intro x y z
    unfold A_main_v46 A_main_v45 A_main_v44 A_main_v43 A_main_v42 A_main_v4; pointwise
  rw [← e]
  unfold A_main_v56 A_main_v48 A_main_call2_v2 A_main_v47 A_main_call1_v11 A_main_call1_v10 A_main_call1_v9 A_main_call1_v8 A_main_call1_v7 A_main_call1_v6 A_main_call1_v4 A_main_call1_v3 A_main_call1_v1
    K_main_call1_v0 K_main_call1_v2 K_main_call1_v5 K_main_call2_v1 K_main_call2_v0 K_main_call2_v4 K_main_call2_v3 K_main_call1_cst K_main_cst_0 K_main_cst_1 clip; pointwise
  show min (Ideal.ofBits FTy.f32 1065353216#32) (max (Ideal.ofBits FTy.f32 953267991#32) _) = _
  rw [Ideal.ofBits_one_f32, zero_sub]
theorem A54_at (t : Fin 4096) (b : Fin 2) (h : Fin 8) (p : Fin 256) :
    @Eq EReal (A_main_v54 a0 a1 a2 a3 a4 a5 a7 (ix4 t b h p))
      ((A_main_v9 a0 a1 a2 a3 a4 a5 a7 (ix3 b ⟨t.val, by omega⟩ ⟨h.val * 256 + p.val, by omega⟩) : EReal) * (a3 (ix2 ⟨h.val * 256 + p.val, by omega⟩ 0) : EReal)
        + (A_main_v9 a0 a1 a2 a3 a4 a5 a7 (ix3 b ⟨1 + t.val, by omega⟩ ⟨h.val * 256 + p.val, by omega⟩) : EReal) * (a3 (ix2 ⟨h.val * 256 + p.val, by omega⟩ 1) : EReal)
        + (A_main_v9 a0 a1 a2 a3 a4 a5 a7 (ix3 b ⟨2 + t.val, by omega⟩ ⟨h.val * 256 + p.val, by omega⟩) : EReal) * (a3 (ix2 ⟨h.val * 256 + p.val, by omega⟩ 2) : EReal)
        + (A_main_v9 a0 a1 a2 a3 a4 a5 a7 (ix3 b ⟨3 + t.val, by omega⟩ ⟨h.val * 256 + p.val, by omega⟩) : EReal) * (a3 (ix2 ⟨h.val * 256 + p.val, by omega⟩ 3) : EReal)
        + (a4 (ix1 ⟨h.val * 256 + p.val, by omega⟩) : EReal)) := by
  unfold A_main_v54 A_main_v51 A_main_v41 A_main_v40 A_main_v39 A_main_v38 A_main_v37 A_main_v36 A_main_v35 A_main_v34 A_main_v33 A_main_v32 A_main_v31 A_main_v30 A_main_v29 A_main_v28 A_main_v27 A_main_v26 A_main_v25 A_main_v24 A_main_v23 A_main_v22 A_main_v21 A_main_v20 A_main_v19 A_main_v18 A_main_v17 A_main_v15 A_main_v14 A_main_v13 A_main_v12 A_main_v11 A_main_v10 K_main_v16 K_main_cst; pointwise
theorem A9_at (x : Fin 2) (m : Fin 4099) (e : Fin 2048) :
    @Eq EReal (A_main_v9 a0 a1 a2 a3 a4 a5 a7 (ix3 x m e))
      (if h : 3 ≤ m.val ∧ m.val - 3 < 4096 then A_main_v1 a0 a1 a2 a3 a4 a5 a7 (ix3 x ⟨m.val - 3, h.2⟩ ⟨2048 + e.val, by omega⟩)
        else FloatOps.sitofp (F := Ideal) FTy.f32 0#32) := by
  unfold A_main_v9 A_main_v3 K_main_call0_v0 K_main_c; pointwise

variable {a0 a1 a2 a3 a4 a5 a6 a7} {Δ : Data}

theorem A1_coe (H : Of Δ a0 a1 a2 a3 a4 a5 a6 a7) (b : Fin 2) (l : Fin 4096) (e : Fin 4416) :
    @Eq EReal (A_main_v1 a0 a1 a2 a3 a4 a5 a7 (ix3 b l e)) (Δ.proj b l e : ℝ) := by
  rw [A1_at]
  unfold Data.proj
  rw [coe_sum']
  exact Finset.sum_congr rfl fun k _ => by rw [H.X, H.W, ← EReal.coe_mul]

theorem A9_raw (H : Of Δ a0 a1 a2 a3 a4 a5 a6 a7) (b : Fin 2) (h : Fin 8) (p : Fin 256) (m : Fin 4099) (k : ℕ) (hk : k = m.val) (e : Fin 2048) (he : e.val = h.val * 256 + p.val) :
    @Eq EReal (A_main_v9 a0 a1 a2 a3 a4 a5 a7 (ix3 b m e)) ((Δ.row b h).raw k p : ℝ) := by
  have hm := m.isLt
  rw [A9_at]
  by_cases h3 : 3 ≤ m.val
  · rw [dif_pos ⟨h3, by omega⟩, A1_coe H, ← Data.row_raw Δ b h ⟨m.val - 3, by omega⟩ p _ (by simp only; omega)]
    simp only
    rw [show m.val - 3 + 3 = k by omega]
  · rw [dif_neg (by omega), Data.row_raw0 Δ b h k p (by omega)]
    show (((0#32 : BitVec 32).toInt : ℝ) : EReal) = _
    simp

theorem A54_u (H : Of Δ a0 a1 a2 a3 a4 a5 a6 a7) (t : Fin 4096) (b : Fin 2) (h : Fin 8) (p : Fin 256) :
    @Eq EReal (A_main_v54 a0 a1 a2 a3 a4 a5 a7 (ix4 t b h p)) ((Δ.row b h).u t.val p : ℝ) := by
  rw [A54_at, A9_raw H b h p _ t.val rfl _ rfl, A9_raw H b h p _ (t.val + 1) (Nat.add_comm _ _) _ rfl, A9_raw H b h p _ (t.val + 2) (Nat.add_comm _ _) _ rfl,
    A9_raw H b h p _ (t.val + 3) (Nat.add_comm _ _) _ rfl, H.Cw, H.Cw, H.Cw, H.Cw, H.Cb]
  have ec : (⟨h.val * 256 + p.val, by omega⟩ : Fin 2048) = col h p := Fin.ext (by unfold col; simp only; omega)
  rw [ec]
  simp only [← EReal.coe_mul, ← EReal.coe_add]
  congr 1
  have e1 : ∀ q, (Δ.row b h).w q p = Δ.Cw (col h p) q := fun _ => rfl
  have e2 : (Δ.row b h).cb p = Δ.Cb (col h p) := rfl
  unfold Row.u
  simp only [e1, e2]
  ring

theorem inv_init (H : Of Δ a0 a1 a2 a3 a4 a5 a6 a7) : Inv Δ.row 0 (init a6 a0 a1 a2 a3 a4 a5 a7) where
  u := A54_u H
  z t b h p := (A55_at a0 a1 a2 a3 a4 a5 a7 t b h p).trans ((A1_coe H _ _ _).trans (Data.row_z Δ b h t p _ (by simp only; omega)).symm)
  d t b h := by
    rw [Data.row_d]
    refine (A56_at a0 a1 a2 a3 a4 a5 a7 t b h).trans ?_
    unfold Data.logit
    rw [H.bias, coe_sum']
    exact congrArg (fun y : EReal => clip (y + _)) (Finset.sum_congr rfl fun r _ => by rw [A1_coe H, H.Wd, ← EReal.coe_mul])
  B t b h n := (A57_at a0 a1 a2 a3 a4 a5 a7 t b h n).trans ((A1_coe H _ _ _).trans (congrArg (fun r : ℝ => (r : EReal)) (Data.row_B Δ b h t n _ (by show 4160 + (h.val * 16 + n.val) = 4160 + (16 * h.val + n.val); omega)).symm))
  C t b h n := (A58_at a0 a1 a2 a3 a4 a5 a7 t b h n).trans ((A1_coe H _ _ _).trans (congrArg (fun r : ℝ => (r : EReal)) (Data.row_C Δ b h t n _ (by show 4288 + (h.val * 16 + n.val) = 4288 + (16 * h.val + n.val); omega)).symm))
  A h n := (A50_at a0 a1 a2 a3 a4 a5 a7 h n).trans (H.A h n)
  D b h p := H.D h p
  st b h p n := by
    show @Eq EReal (K_main_v53 (F := Ideal) (ix4 b h p n)) _
    unfold K_main_v53 K_main_cst_2 Row.st; pointwise
    exact EReal.coe_zero.symm
  out t b h p ht := absurd ht (Nat.not_lt_zero _)

/-- The reference's result, of the argument arrays. -/
theorem ref_val (H : Of Δ a0 a1 a2 a3 a4 a5 a6 a7) (it : ℕ → State Ideal) (h0 : it 0 = init a6 a0 a1 a2 a3 a4 a5 a7) (hs : ∀ n, it (n + 1) = step n (it n))
    (a8 a9 a10) (b : Fin 2) (l : Fin 4096) (q : Fin 1024) :
    @Eq EReal (R_main_v80 (it 4096) a0 a8 a9 a10 (ix3 b l q)) (outRow (fun k => a0 (ix3 b l k)) (fun e k => a10 (ix2 e k))
      (fun e => (Δ.row b ⟨e.val / 256, by omega⟩).out l.val ⟨e.val % 256, by omega⟩) (fun e => a8 (ix1 e)) (fun e => a9 (ix2 q e))) := by
  rw [R_at]
  have hi := inv_iter it (h0 ▸ inv_init H) hs 4096 le_rfl
  congr 1
  funext e
  exact hi.out l b _ _ l.isLt
end Cert.RefVal
-- ==== Proof.Alg.lean ====
module

public import proofs.«01_k».proof.Proof.Frames
public import proofs.«01_k».proof.Proof.KerVal
public import proofs.«01_k».proof.Proof.RefVal

@[expose] public section
set_option maxRecDepth 65536
noncomputable section

/-! The kernel's result is the reference's. -/

namespace Cert.Alg
open Idealize.ShloMosaic Idealize.ShloMosaic.TcCoe Idealize.SL.Sem

/-- The states of the reference's loop. -/
def it (m : (ℓ : Loc Cert.ReferenceIdeal.nD Cert.ReferenceIdeal.τ Cert.ReferenceIdeal.sig) → Buf (Elt Ideal) ℓ) (c : Dev Cert.ReferenceIdeal.nD) : ℕ → Cert.ReferenceIdeal.Step.State Ideal
  | 0 => Cert.RefRun.initState m c
  | n + 1 => Cert.ReferenceIdeal.Step.step n (it m c n)

open Cert.KernelIdeal in
/-- The kernel's run, with its result and its arguments. -/
theorem ker (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v96) = Cert.KI.W7 m g c main_v96
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c =>
    have hv := h.1 c _ (Cert.KI.mem_uc main_v96 (by decide))
    have ha : ∀ a ∈ Cert.KI.argRefs, r.2.mem ((c.tc : Thread nD τ).loc a) = m ((c.tc : Thread nD τ).loc a) := fun a ha =>
      (h.1 c _ (Cert.KI.mem_uc a ((by decide : ∀ a ∈ Cert.KI.argRefs, ¬ (Proc.devRef .tc a : DevRef τ sig).isScoped) a ha))).trans (Cert.KI.W7_args m g c a ha)
    ⟨hv, ha _ (by simp), ha _ (by simp), ha _ (by simp), ha _ (by simp), ha _ (by simp), ha _ (by simp), ha _ (by simp), ha _ (by simp), ha _ (by simp), ha _ (by simp), ha _ (by simp)⟩)
    (Cert.KI.run m g)

theorem algebraic : Cert.algebraic_KernelIdeal_ReferenceIdeal_pre_model_weights (hKernelIdeal := Cert.KernelIdeal.Gen.facts) (hReferenceIdeal := Cert.ReferenceIdeal.Gen.facts)
    (hPre_model_weights := Cert.Frames.preFacts) := by
  intro m g m' g' hpre hargs
  refine ⟨fun c => Cert.KI.W7 m g c Cert.KernelIdeal.main_v96, ker m g, ?_⟩
  refine (θ_run _ _ _).mono (fun r h c => ⟨?_, (h c).2⟩) (Cert.RefRun.run_iter m' g' (it m') (fun _ => rfl) (fun _ _ => rfl))
  refine (h c).1.trans ?_
  obtain ⟨e0, e1, e2, e3, e4, e5, e6, e7, e8, e9, e10⟩ := hargs c
  obtain ⟨Δ, H⟩ := @Cert.KI.of_pre Cert.Frames.preFacts _ _ _ _ _ _ _ _ _ _ _ (hpre c)
  have h0 : it m' c 0 = Cert.ReferenceIdeal.Step.init (m ((c.tc : Thread Cert.KernelIdeal.nD Cert.KernelIdeal.τ).loc Cert.KernelIdeal.main_arg6))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg7)) := by
    rw [← e0, ← e1, ← e2, ← e3, ← e4, ← e5, ← e6, ← e7]; rfl
  rw [e0, e8, e9, e10]
  funext i
  obtain ⟨b, l, q, rfl⟩ : ∃ (b : Fin 2) (l : Fin 4096) (q : Fin 1024), i = ix3 b l q := ⟨i 0, i 1, i 2, by funext a; fin_cases a <;> rfl⟩
  exact (Cert.RefVal.ref_val H (it m' c) h0 (fun _ => rfl) _ _ _ b l q).trans (Cert.KI.kernel_val g H b l q).symm

end Cert.Alg
-- ==== Proof.lean ====
module

public import proofs.«01_k».proof.Defs
public import proofs.«01_k».proof.Proof.Frames
public import proofs.«01_k».proof.Proof.Alg

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Frames.preFacts,
    Cert.Frames.kernel, Cert.Frames.kernelIdeal, fun m g _ => Cert.Frames.kernelIdeal m g trivial,
    Cert.Frames.reference, fun m g _ => Cert.Frames.reference m g trivial, trivial, Cert.Alg.algebraic⟩

end Cert.Proof

end
